-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x2048x512 .f32) (main_arg1 : FVec F S512x256 .f32) (main_arg2 : FVec F S2x2048x4x64 .f32) (main_arg3 : FVec F S2x2048x4x64 .f32) (main_arg4 : FVec F S256x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x2048x4x64 .f32 := Host.absf main_arg2
  let main_cst_2 : FVec F S_ .f32 := constant S_ .f32 0x7F800000#32
  let main_v10 : FVec F S2x2048x4x64 .f32 := broadcastInDim S2x2048x4x64 ![] bcast_S_S2x2048x4x64 main_cst_2
  let main_v11 : IVec S2x2048x4x64 1 := cmpf .olt main_v9 main_v10
  let main_c_3 : IVec S_ 1 := constantI S_ 1 1#1
  let main_v12 : IVec S_ 1 := (fun x v => Host.reduce IntOp.andi x v reducesTo_S2x2048x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S8x3x64x256 : Shape := ⟨4, ![8, 3, 64, 256]⟩
abbrev S8x64x256 : Shape := ⟨3, ![8, 64, 256]⟩
abbrev S8 : Shape := ⟨1, ![8]⟩
abbrev S_ : Shape := ⟨0, ![]⟩
abbrev S1x256x512 : Shape := ⟨3, ![1, 256, 512]⟩
abbrev S256x256 : Shape := ⟨2, ![256, 256]⟩
abbrev S64x256 : Shape := ⟨2, ![64, 256]⟩
abbrev S1x1x64x256 : Shape := ⟨4, ![1, 1, 64, 256]⟩
abbrev S1x64x4x64 : Shape := ⟨4, ![1, 64, 4, 64]⟩
abbrev S64x4x64 : Shape := ⟨3, ![64, 4, 64]⟩
abbrev S1 : Shape := ⟨1, ![1]⟩
abbrev S1x3x64x256 : Shape := ⟨4, ![1, 3, 64, 256]⟩
abbrev S3x64x256 : Shape := ⟨3, ![3, 64, 256]⟩
abbrev S8x1x64x256 : Shape := ⟨4, ![8, 1, 64, 256]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1x64x256 : Shape := ⟨3, ![1, 64, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S8x3x64x256, .bf16⟩
  | .local _ .vmem, ⟨7, _⟩ => ⟨S8x3x64x256, .bf16⟩
  | .local _ .vmem, ⟨8, _⟩ => ⟨S8x64x256, .bf16⟩
  | .local _ .vmem, ⟨9, _⟩ => ⟨S8x64x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_180 : BitVec 32 := 0#32
  let v182 : BitVec 1 := Scalar.cmpi .ne v2 c0_i32_180
  let v183 : BitVec 32 := Scalar.extui v182
  let c0_i32_183 : BitVec 32 := 0#32
  let v184 : BitVec 1 := Scalar.cmpi .ne v183 c0_i32_183
  v184

def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  let c0_i32_538 : BitVec 32 := 0#32
  ![v2.toNat, 0, 0, 0]
def k0_dev8 : Nat :=
  let c0_i32_535 : BitVec 32 := 0#32
  let c0_i32_533 : BitVec 32 := 0#32
  let c1_i32_534 : BitVec 32 := 1#32
  let v498 : BitVec 32 := Scalar.muli c0_i32_533 c1_i32_534
  let v499 : BitVec 32 := Scalar.addi c0_i32_535 v498
  v499.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_186 : BitVec 32 := 1#32
  let v188 : BitVec 1 := Scalar.cmpi .ne v2 c1_i32_186
  let v189 : BitVec 32 := Scalar.extui v188
  let c0_i32_189 : BitVec 32 := 0#32
  let v190 : BitVec 1 := Scalar.cmpi .ne v189 c0_i32_189
  v190

def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  let c0_i32_538 : BitVec 32 := 0#32
  ![v2.toNat, 0, 0, 0]
def k0_dev9 : Nat :=
  let c0_i32_535 : BitVec 32 := 0#32
  let c1_i32_533 : BitVec 32 := 1#32
  let c1_i32_534 : BitVec 32 := 1#32
  let v498 : BitVec 32 := Scalar.muli c1_i32_533 c1_i32_534
  let v499 : BitVec 32 := Scalar.addi c0_i32_535 v498
  v499.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_192 : BitVec 32 := 2#32
  let v194 : BitVec 1 := Scalar.cmpi .ne v2 c2_i32_192
  let v195 : BitVec 32 := Scalar.extui v194
  let c0_i32_195 : BitVec 32 := 0#32
  let v196 : BitVec 1 := Scalar.cmpi .ne v195 c0_i32_195
  v196

def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  let c0_i32_538 : BitVec 32 := 0#32
  ![v2.toNat, 0, 0, 0]
def k0_dev10 : Nat :=
  let c0_i32_535 : BitVec 32 := 0#32
  let c2_i32_533 : BitVec 32 := 2#32
  let c1_i32_534 : BitVec 32 := 1#32
  let v498 : BitVec 32 := Scalar.muli c2_i32_533 c1_i32_534
  let v499 : BitVec 32 := Scalar.addi c0_i32_535 v498
  v499.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_198 : BitVec 32 := 3#32
  let v200 : BitVec 1 := Scalar.cmpi .ne v2 c3_i32_198
  let v201 : BitVec 32 := Scalar.extui v200
  let c0_i32_201 : BitVec 32 := 0#32
  let v202 : BitVec 1 := Scalar.cmpi .ne v201 c0_i32_201
  v202

def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  let c0_i32_538 : BitVec 32 := 0#32
  ![v2.toNat, 0, 0, 0]
def k0_dev11 : Nat :=
  let c0_i32_535 : BitVec 32 := 0#32
  let c3_i32_533 : BitVec 32 := 3#32
  let c1_i32_534 : BitVec 32 := 1#32
  let v498 : BitVec 32 := Scalar.muli c3_i32_533 c1_i32_534
  let v499 : BitVec 32 := Scalar.addi c0_i32_535 v498
  v499.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_204 : BitVec 32 := 4#32
  let v206 : BitVec 1 := Scalar.cmpi .ne v2 c4_i32_204
  let v207 : BitVec 32 := Scalar.extui v206
  let c0_i32_207 : BitVec 32 := 0#32
  let v208 : BitVec 1 := Scalar.cmpi .ne v207 c0_i32_207
  v208

def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  let c0_i32_538 : BitVec 32 := 0#32
  ![v2.toNat, 0, 0, 0]
def k0_dev12 : Nat :=
  let c0_i32_535 : BitVec 32 := 0#32
  let c4_i32_533 : BitVec 32 := 4#32
  let c1_i32_534 : BitVec 32 := 1#32
  let v498 : BitVec 32 := Scalar.muli c4_i32_533 c1_i32_534
  let v499 : BitVec 32 := Scalar.addi c0_i32_535 v498
  v499.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_210 : BitVec 32 := 5#32
  let v212 : BitVec 1 := Scalar.cmpi .ne v2 c5_i32_210
  let v213 : BitVec 32 := Scalar.extui v212
  let c0_i32_213 : BitVec 32 := 0#32
  let v214 : BitVec 1 := Scalar.cmpi .ne v213 c0_i32_213
  v214

def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  let c0_i32_538 : BitVec 32 := 0#32
  ![v2.toNat, 0, 0, 0]
def k0_dev13 : Nat :=
  let c0_i32_535 : BitVec 32 := 0#32
  let c5_i32_533 : BitVec 32 := 5#32
  let c1_i32_534 : BitVec 32 := 1#32
  let v498 : BitVec 32 := Scalar.muli c5_i32_533 c1_i32_534
  let v499 : BitVec 32 := Scalar.addi c0_i32_535 v498
  v499.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_216 : BitVec 32 := 6#32
  let v218 : BitVec 1 := Scalar.cmpi .ne v2 c6_i32_216
  let v219 : BitVec 32 := Scalar.extui v218
  let c0_i32_219 : BitVec 32 := 0#32
  let v220 : BitVec 1 := Scalar.cmpi .ne v219 c0_i32_219
  v220

def k0_off7 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  let c0_i32_538 : BitVec 32 := 0#32
  ![v2.toNat, 0, 0, 0]
def k0_dev14 : Nat :=
  let c0_i32_535 : BitVec 32 := 0#32
  let c6_i32_533 : BitVec 32 := 6#32
  let c1_i32_534 : BitVec 32 := 1#32
  let v498 : BitVec 32 := Scalar.muli c6_i32_533 c1_i32_534
  let v499 : BitVec 32 := Scalar.addi c0_i32_535 v498
  v499.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_222 : BitVec 32 := 7#32
  let v224 : BitVec 1 := Scalar.cmpi .ne v2 c7_i32_222
  let v225 : BitVec 32 := Scalar.extui v224
  let c0_i32_225 : BitVec 32 := 0#32
  let v226 : BitVec 1 := Scalar.cmpi .ne v225 c0_i32_225
  v226

def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  let c0_i32_538 : BitVec 32 := 0#32
  ![v2.toNat, 0, 0, 0]
def k0_dev15 : Nat :=
  let c0_i32_535 : BitVec 32 := 0#32
  let c7_i32_533 : BitVec 32 := 7#32
  let c1_i32_534 : BitVec 32 := 1#32
  let v498 : BitVec 32 := Scalar.muli c7_i32_533 c1_i32_534
  let v499 : BitVec 32 := Scalar.addi c0_i32_535 v498
  v499.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_340 : BitVec 32 := 0#32
  let v355 : BitVec 1 := Scalar.cmpi .ne v2 c0_i32_340
  let v356 : BitVec 32 := Scalar.extui v355
  let c0_i32_343 : BitVec 32 := 0#32
  let v357 : BitVec 1 := Scalar.cmpi .ne v356 c0_i32_343
  v357

def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_dev16 : Nat :=
  let c0_i32_535 : BitVec 32 := 0#32
  let c0_i32_533 : BitVec 32 := 0#32
  let c1_i32_534 : BitVec 32 := 1#32
  let v498 : BitVec 32 := Scalar.muli c0_i32_533 c1_i32_534
  let v499 : BitVec 32 := Scalar.addi c0_i32_535 v498
  v499.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_344 : BitVec 32 := 1#32
  let v358 : BitVec 1 := Scalar.cmpi .ne v2 c1_i32_344
  let v359 : BitVec 32 := Scalar.extui v358
  let c0_i32_347 : BitVec 32 := 0#32
  let v360 : BitVec 1 := Scalar.cmpi .ne v359 c0_i32_347
  v360

def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_dev17 : Nat :=
  let c0_i32_535 : BitVec 32 := 0#32
  let c1_i32_533 : BitVec 32 := 1#32
  let c1_i32_534 : BitVec 32 := 1#32
  let v498 : BitVec 32 := Scalar.muli c1_i32_533 c1_i32_534
  let v499 : BitVec 32 := Scalar.addi c0_i32_535 v498
  v499.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_348 : BitVec 32 := 2#32
  let v361 : BitVec 1 := Scalar.cmpi .ne v2 c2_i32_348
  let v362 : BitVec 32 := Scalar.extui v361
  let c0_i32_351 : BitVec 32 := 0#32
  let v363 : BitVec 1 := Scalar.cmpi .ne v362 c0_i32_351
  v363

def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_dev18 : Nat :=
  let c0_i32_535 : BitVec 32 := 0#32
  let c2_i32_533 : BitVec 32 := 2#32
  let c1_i32_534 : BitVec 32 := 1#32
  let v498 : BitVec 32 := Scalar.muli c2_i32_533 c1_i32_534
  let v499 : BitVec 32 := Scalar.addi c0_i32_535 v498
  v499.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_352 : BitVec 32 := 3#32
  let v364 : BitVec 1 := Scalar.cmpi .ne v2 c3_i32_352
  let v365 : BitVec 32 := Scalar.extui v364
  let c0_i32_355 : BitVec 32 := 0#32
  let v366 : BitVec 1 := Scalar.cmpi .ne v365 c0_i32_355
  v366

def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_dev19 : Nat :=
  let c0_i32_535 : BitVec 32 := 0#32
  let c3_i32_533 : BitVec 32 := 3#32
  let c1_i32_534 : BitVec 32 := 1#32
  let v498 : BitVec 32 := Scalar.muli c3_i32_533 c1_i32_534
  let v499 : BitVec 32 := Scalar.addi c0_i32_535 v498
  v499.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_356 : BitVec 32 := 4#32
  let v367 : BitVec 1 := Scalar.cmpi .ne v2 c4_i32_356
  let v368 : BitVec 32 := Scalar.extui v367
  let c0_i32_359 : BitVec 32 := 0#32
  let v369 : BitVec 1 := Scalar.cmpi .ne v368 c0_i32_359
  v369

def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_dev20 : Nat :=
  let c0_i32_535 : BitVec 32 := 0#32
  let c4_i32_533 : BitVec 32 := 4#32
  let c1_i32_534 : BitVec 32 := 1#32
  let v498 : BitVec 32 := Scalar.muli c4_i32_533 c1_i32_534
  let v499 : BitVec 32 := Scalar.addi c0_i32_535 v498
  v499.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_360 : BitVec 32 := 5#32
  let v370 : BitVec 1 := Scalar.cmpi .ne v2 c5_i32_360
  let v371 : BitVec 32 := Scalar.extui v370
  let c0_i32_363 : BitVec 32 := 0#32
  let v372 : BitVec 1 := Scalar.cmpi .ne v371 c0_i32_363
  v372

def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_dev21 : Nat :=
  let c0_i32_535 : BitVec 32 := 0#32
  let c5_i32_533 : BitVec 32 := 5#32
  let c1_i32_534 : BitVec 32 := 1#32
  let v498 : BitVec 32 := Scalar.muli c5_i32_533 c1_i32_534
  let v499 : BitVec 32 := Scalar.addi c0_i32_535 v498
  v499.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_364 : BitVec 32 := 6#32
  let v373 : BitVec 1 := Scalar.cmpi .ne v2 c6_i32_364
  let v374 : BitVec 32 := Scalar.extui v373
  let c0_i32_367 : BitVec 32 := 0#32
  let v375 : BitVec 1 := Scalar.cmpi .ne v374 c0_i32_367
  v375

def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_dev22 : Nat :=
  let c0_i32_535 : BitVec 32 := 0#32
  let c6_i32_533 : BitVec 32 := 6#32
  let c1_i32_534 : BitVec 32 := 1#32
  let v498 : BitVec 32 := Scalar.muli c6_i32_533 c1_i32_534
  let v499 : BitVec 32 := Scalar.addi c0_i32_535 v498
  v499.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_368 : BitVec 32 := 7#32
  let v376 : BitVec 1 := Scalar.cmpi .ne v2 c7_i32_368
  let v377 : BitVec 32 := Scalar.extui v376
  let c0_i32_371 : BitVec 32 := 0#32
  let v378 : BitVec 1 := Scalar.cmpi .ne v377 c0_i32_371
  v378

def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_dev23 : Nat :=
  let c0_i32_535 : BitVec 32 := 0#32
  let c7_i32_533 : BitVec 32 := 7#32
  let c1_i32_534 : BitVec 32 := 1#32
  let v498 : BitVec 32 := Scalar.muli c7_i32_533 c1_i32_534
  let v499 : BitVec 32 := Scalar.addi c0_i32_535 v498
  v499.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_485 : BitVec 32 := 0#32
  let v474 : BitVec 1 := Scalar.cmpi .ne v2 c0_i32_485
  let v475 : BitVec 32 := Scalar.extui v474
  let c0_i32_490 : BitVec 32 := 0#32
  let v476 : BitVec 1 := Scalar.cmpi .ne v475 c0_i32_490
  v476

def k0_off17 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_538 : BitVec 32 := 0#32
  let c0_i32_539 : BitVec 32 := 0#32
  let c0_i32_540 : BitVec 32 := 0#32
  ![v2.toNat, 0, 0, 0]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_545 : BitVec 32 := 0#32
  let c0_i32_546 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_491 : BitVec 32 := 1#32
  let v477 : BitVec 1 := Scalar.cmpi .ne v2 c1_i32_491
  let v478 : BitVec 32 := Scalar.extui v477
  let c0_i32_496 : BitVec 32 := 0#32
  let v479 : BitVec 1 := Scalar.cmpi .ne v478 c0_i32_496
  v479

def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_538 : BitVec 32 := 0#32
  let c0_i32_539 : BitVec 32 := 0#32
  let c0_i32_540 : BitVec 32 := 0#32
  ![v2.toNat, 0, 0, 0]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_545 : BitVec 32 := 0#32
  let c0_i32_546 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_497 : BitVec 32 := 2#32
  let v480 : BitVec 1 := Scalar.cmpi .ne v2 c2_i32_497
  let v481 : BitVec 32 := Scalar.extui v480
  let c0_i32_502 : BitVec 32 := 0#32
  let v482 : BitVec 1 := Scalar.cmpi .ne v481 c0_i32_502
  v482

def k0_off21 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_538 : BitVec 32 := 0#32
  let c0_i32_539 : BitVec 32 := 0#32
  let c0_i32_540 : BitVec 32 := 0#32
  ![v2.toNat, 0, 0, 0]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_545 : BitVec 32 := 0#32
  let c0_i32_546 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_503 : BitVec 32 := 3#32
  let v483 : BitVec 1 := Scalar.cmpi .ne v2 c3_i32_503
  let v484 : BitVec 32 := Scalar.extui v483
  let c0_i32_508 : BitVec 32 := 0#32
  let v485 : BitVec 1 := Scalar.cmpi .ne v484 c0_i32_508
  v485

def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_538 : BitVec 32 := 0#32
  let c0_i32_539 : BitVec 32 := 0#32
  let c0_i32_540 : BitVec 32 := 0#32
  ![v2.toNat, 0, 0, 0]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_545 : BitVec 32 := 0#32
  let c0_i32_546 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_509 : BitVec 32 := 4#32
  let v486 : BitVec 1 := Scalar.cmpi .ne v2 c4_i32_509
  let v487 : BitVec 32 := Scalar.extui v486
  let c0_i32_514 : BitVec 32 := 0#32
  let v488 : BitVec 1 := Scalar.cmpi .ne v487 c0_i32_514
  v488

def k0_off25 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_538 : BitVec 32 := 0#32
  let c0_i32_539 : BitVec 32 := 0#32
  let c0_i32_540 : BitVec 32 := 0#32
  ![v2.toNat, 0, 0, 0]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_545 : BitVec 32 := 0#32
  let c0_i32_546 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_515 : BitVec 32 := 5#32
  let v489 : BitVec 1 := Scalar.cmpi .ne v2 c5_i32_515
  let v490 : BitVec 32 := Scalar.extui v489
  let c0_i32_520 : BitVec 32 := 0#32
  let v491 : BitVec 1 := Scalar.cmpi .ne v490 c0_i32_520
  v491

def k0_off27 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_538 : BitVec 32 := 0#32
  let c0_i32_539 : BitVec 32 := 0#32
  let c0_i32_540 : BitVec 32 := 0#32
  ![v2.toNat, 0, 0, 0]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_545 : BitVec 32 := 0#32
  let c0_i32_546 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_521 : BitVec 32 := 6#32
  let v492 : BitVec 1 := Scalar.cmpi .ne v2 c6_i32_521
  let v493 : BitVec 32 := Scalar.extui v492
  let c0_i32_526 : BitVec 32 := 0#32
  let v494 : BitVec 1 := Scalar.cmpi .ne v493 c0_i32_526
  v494

def k0_off29 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_538 : BitVec 32 := 0#32
  let c0_i32_539 : BitVec 32 := 0#32
  let c0_i32_540 : BitVec 32 := 0#32
  ![v2.toNat, 0, 0, 0]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_545 : BitVec 32 := 0#32
  let c0_i32_546 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_527 : BitVec 32 := 7#32
  let v495 : BitVec 1 := Scalar.cmpi .ne v2 c7_i32_527
  let v496 : BitVec 32 := Scalar.extui v495
  let c0_i32_532 : BitVec 32 := 0#32
  let v497 : BitVec 1 := Scalar.cmpi .ne v496 c0_i32_532
  v497

def k0_off31 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_538 : BitVec 32 := 0#32
  let c0_i32_539 : BitVec 32 := 0#32
  let c0_i32_540 : BitVec 32 := 0#32
  ![v2.toNat, 0, 0, 0]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_545 : BitVec 32 := 0#32
  let c0_i32_546 : BitVec 32 := 0#32
  ![v2.toNat, 0, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S2x2048x256 : Shape := ⟨3, ![2, 2048, 256]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 137
  | .vmem => 0
  | .smem => 0
  | _ => 0

abbrev hbmTy0_0 (i : Nat) : BufTy := match i % 128 with
  | 0 => ⟨S2x2048x512, .f32⟩
  | 1 => ⟨S512x256, .f32⟩
  | 2 => ⟨S2x2048x4x64, .f32⟩
  | 3 => ⟨S2x2048x4x64, .f32⟩
  | 4 => ⟨S256x512, .f32⟩
  | 5 => ⟨S2x2048x256, .f32⟩
  | 6 => ⟨S2x2048x4x64, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S1x2048, .i32⟩
  | 47 => ⟨S2048x2048, .i32⟩
  | 48 => ⟨S2048x2048, .i32⟩
  | 49 => ⟨S2048x2048, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x2048, .i32⟩
  | 57 => ⟨S1x2048, .i32⟩
  | 58 => ⟨S_, .i32⟩
  | 59 => ⟨S1x2048, .i32⟩
  | 60 => ⟨S1x2048, .i1⟩
  | 61 => ⟨S_, .i32⟩
  | 62 => ⟨S1x2048, .i32⟩
  | 63 => ⟨S1x2048, .i1⟩
  | 64 => ⟨S_, .i32⟩
  | 65 => ⟨S_, .i1⟩
  | 66 => ⟨S1x2048, .i1⟩
  | 67 => ⟨S1x2048, .i1⟩
  | 68 => ⟨S1x2048, .i1⟩
  | 69 => ⟨S1x2048, .i32⟩
  | 70 => ⟨S1x2048, .i32⟩
  | 71 => ⟨S1x2048, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x2048, .i32⟩
  | 95 => ⟨S2048x2048, .i32⟩
  | 96 => ⟨S2048x2048, .i1⟩
  | 97 => ⟨S2048x2048, .i1⟩
  | 98 => ⟨S2x4x2048x2048, .f32⟩
  | 99 => ⟨S_, .f32⟩
  | 100 => ⟨S2x4x2048x2048, .f32⟩
  | 101 => ⟨S2x4x2048x2048, .f32⟩
  | 102 => ⟨S1x1x2048x2048, .i1⟩
  | 103 => ⟨S_, .f32⟩
  | 104 => ⟨S_, .f32⟩
  | 105 => ⟨S2x4x2048x2048, .i1⟩
  | 106 => ⟨S2x4x2048x2048, .f32⟩
  | 107 => ⟨S2x4x2048x2048, .f32⟩
  | 108 => ⟨S_, .f32⟩
  | 109 => ⟨S2x4x2048, .f32⟩
  | 110 => ⟨S2x4x2048x1, .f32⟩
  | 111 => ⟨S2x4x2048x2048, .f32⟩
  | 112 => ⟨S2x4x2048x2048, .f32⟩
  | 113 => ⟨S2x4x2048x2048, .f32⟩
  | 114 => ⟨S_, .i1⟩
  | 115 => ⟨S2048, .i1⟩
  | 116 => ⟨S1x1x2048x1, .i1⟩
  | 117 => ⟨S_, .f32⟩
  | 118 => ⟨S2x4x2048, .f32⟩
  | 119 => ⟨S2x4x2048x1, .f32⟩
  | 120 => ⟨S_, .f32⟩
  | 121 => ⟨S_, .f32⟩
  | 122 => ⟨S2x4x2048x1, .i1⟩
  | 123 => ⟨S2x4x2048x1, .f32⟩
  | 124 => ⟨S2x4x2048x1, .f32⟩
  | 125 => ⟨S2x4x2048x2048, .f32⟩
  | 126 => ⟨S2x4x2048x2048, .f32⟩
  | 127 => ⟨S1x1x2048x1, .i1⟩
  | _ => ⟨S2x2048x512, .f32⟩

abbrev hbmTy0_1 (i : Nat) : BufTy := match i % 128 with
  | 0 => ⟨S_, .f32⟩
  | 1 => ⟨S_, .f32⟩
  | 2 => ⟨S2x4x2048x2048, .i1⟩
  | 3 => ⟨S2x4x2048x2048, .f32⟩
  | 4 => ⟨S2x4x2048x2048, .f32⟩
  | 5 => ⟨S2x4x64x2048, .f32⟩
  | 6 => ⟨S2x2048x4x64, .f32⟩
  | 7 => ⟨S2x2048x256, .f32⟩
  | 8 => ⟨S2x2048x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Proto.lean ====
/-
The protocol of the two all-to-all exchanges, and the contents every buffer holds at each stage.

A device first signals the seven others on the launch's barrier semaphore, handing each the slot of its two landing
buffers that device writes. After its own barrier wait it holds, at every other device, the slot it copies into. The
first exchange moves the `8 x 3 x 64 x 256` stage: row `d` of the stage lands in row `c` (the sender) of device `d`'s
landing buffer. The second exchange moves the `8 x 64 x 256` context rows the same way.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the rounds. -/
abbrev UB : Type := URounds (GSem nD τ sig) (Dev nD)
/-- The whole ghost state: the staging's and the rounds'. -/
abbrev UU : Type := UR sig nD τ × UB

local notation "𝕄" => MT nD τ sig Unit (Elt F) ℕ UU ℕ

/-- Where the staging's ghost state lies in the whole. -/
abbrev EP : Emb (UR sig nD τ) (MT nD τ sig Unit (Elt F) ℕ UU ℕ) := embL
/-- Where the rounds' ghost state lies in the whole. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers -/

/-- The staged activations. -/
abbrev xM : Memref sig .tc .vmem S2x256x512 .f32 := Memref.whole cc0_stg0_0
/-- The staged query weights. -/
abbrev wqM : Memref sig .tc .vmem S512x256 .f32 := Memref.whole cc0_stg1_0
/-- The staged keys. -/
abbrev kM : Memref sig .tc .vmem S2x256x4x64 .f32 := Memref.whole cc0_stg2_0
/-- The staged values. -/
abbrev vM : Memref sig .tc .vmem S2x256x4x64 .f32 := Memref.whole cc0_stg3_0
/-- The staged output weights. -/
abbrev woM : Memref sig .tc .vmem S256x512 .f32 := Memref.whole cc0_stg4_0
/-- The staged result. -/
abbrev oM : Memref sig .tc .vmem S2x256x512 .f32 := Memref.whole cc0_stg5_0
/-- The stage that the first exchange sends from. -/
abbrev stM : Memref sig .tc .vmem S8x3x64x256 .bf16 := Memref.whole cc0_scratch0
/-- The first exchange's landing buffer. -/
abbrev wM : Memref sig .tc .vmem S8x3x64x256 .bf16 := Memref.whole cc0_scratch1
/-- The context that the second exchange sends from. -/
abbrev ctM : Memref sig .tc .vmem S8x64x256 .bf16 := Memref.whole cc0_scratch2
/-- The second exchange's landing buffer. -/
abbrev cbM : Memref sig .tc .vmem S8x64x256 .bf16 := Memref.whole cc0_scratch3

/-- A device's contents of a buffer. -/
abbrev CT (b : Ref sig .tc) := b.ty.Contents (Elt F)

/-! ## Semaphores: eighteen of the kernel's own, and the barrier -/

/-- The barrier's semaphore. -/
abbrev barS : Sem sig := (SemArray.scalar (sig.barrier 0 rfl) : Sems sig S_).sem

/-- The kernel's own semaphores: `0..7` the first exchange's sends, `8` its arrivals, `9..16` the second's sends, `17`
    its arrivals. -/
def osem (k : Fin 18) : SemLoc sig := .dma ⟨6 + k.val, by have := k.2; show 6 + k.val < 24; omega⟩
/-- All nineteen: the kernel's own, then the barrier. -/
def csem (k : Fin 19) : SemLoc sig := if h : k.val < 18 then osem ⟨k.val, h⟩ else .reg barS
/-- Semaphore `k` of device `c`. -/
def kcell (ck : Dev nD × Fin 19) : GSem nD τ sig := ((ck.1 : Thread nD τ), csem ck.2)

/-- The first exchange's send towards `d`. -/
abbrev kqs (d : Dev nD) : Fin 19 := ⟨d.val, Nat.lt_of_lt_of_le (show d.val < 8 from d.2) (by decide)⟩
/-- The first exchange's arrivals. -/
abbrev kqr : Fin 19 := 8
/-- The second exchange's send towards `d`. -/
abbrev kcs (d : Dev nD) : Fin 19 := ⟨9 + d.val, by have : d.val < 8 := d.2; omega⟩
/-- The second exchange's arrivals. -/
abbrev kcr : Fin 19 := 17
/-- The barrier. -/
abbrev kba : Fin 19 := 18

/-- The first eighteen are the kernel's own. -/
theorem csem_own (k : Fin 18) : csem k.castSucc = osem k := by revert k; decide
/-- The last is the barrier. -/
theorem csem_bar : csem kba = .reg barS := rfl

/-- Which of the nineteen a semaphore is. -/
def kindOf (s : SemLoc sig) : ℕ := match s with
  | .reg _ => 18
  | .dma q => if 6 ≤ q.val then q.val - 6 else 100

/-- The number of a semaphore is read back from it. -/
theorem kindOf_csem (k : Fin 19) : kindOf (csem k) = k.val := by
  revert k; decide

/-- Different numbers are different semaphores. -/
theorem csem_injective : Function.Injective csem := fun a b h => by
  have := congrArg kindOf h
  rw [kindOf_csem, kindOf_csem] at this
  exact Fin.ext this

/-- Different devices or different numbers are different cells. -/
theorem kcell_injective : Function.Injective kcell := by
  rintro ⟨c, k⟩ ⟨c', k'⟩ h
  have h1 : c = c' := Fin.ext (congrArg (fun g : GSem nD τ sig => g.1.1.val) h)
  have h2 : k = k' := csem_injective (congrArg Prod.snd h)
  rw [h1, h2]

/-! ## Slots -/

/-- Row `d` of an `8 x 3 x 64 x 256` buffer. -/
def slot4 (d : ℕ) : Finset S8x3x64x256.Idx := Finset.univ.filter fun i => (i 0).val = d
/-- Row `d` of an `8 x 64 x 256` buffer. -/
def slot3 (d : ℕ) : Finset S8x64x256.Idx := Finset.univ.filter fun i => (i 0).val = d

/-- An element lies in row `d` when its first coordinate is `d`. -/
theorem mem_slot4 {d : ℕ} {i : S8x3x64x256.Idx} : i ∈ slot4 d ↔ (i 0).val = d := by simp [slot4]
/-- An element lies in row `d` when its first coordinate is `d`. -/
theorem mem_slot3 {d : ℕ} {i : S8x64x256.Idx} : i ∈ slot3 d ↔ (i 0).val = d := by simp [slot3]

/-- The same place in row `d`. -/
abbrev row4 (d : Dev nD) (i : S8x3x64x256.Idx) : S8x3x64x256.Idx := Function.update i 0 (show Fin 8 from d)
/-- The same place in row `d`. -/
abbrev row3 (d : Dev nD) (i : S8x64x256.Idx) : S8x64x256.Idx := Function.update i 0 (show Fin 8 from d)

/-- A row of the buffer as the kernel names it in a transfer: a unit slice, its first axis dropped. -/
abbrev sl4 (M : Memref sig .tc .vmem S8x3x64x256 .bf16) (o : Fin 4 → ℕ) (h : ∀ a, o a + S1x3x64x256.size a ≤ S8x3x64x256.size a) :
    Memref sig .tc .vmem S3x64x256 .bf16 :=
  (M.slice (Rect.unit (s := S8x3x64x256) o S1x3x64x256.size h) (fun _ => rfl)).squeeze S3x64x256 squeezes_S1x3x64x256_S3x64x256
/-- The same for the buffers of the second exchange. -/
abbrev sl3 (M : Memref sig .tc .vmem S8x64x256 .bf16) (o : Fin 3 → ℕ) (h : ∀ a, o a + S1x64x256.size a ≤ S8x64x256.size a) :
    Memref sig .tc .vmem S64x256 .bf16 :=
  (M.slice (Rect.unit (s := S8x64x256) o S1x64x256.size h) (fun _ => rfl)).squeeze S64x256 squeezes_S1x64x256_S64x256

/-- The credit of one row of the first exchange, and of the second. -/
def N1 : ℕ := (sl4 wM ![0, 0, 0, 0] inb_S8x3x64x256_S1x3x64x256_0_0_0_0).view.dmaCredit
/-- The credit of one row of the second exchange. -/
def N2 : ℕ := (sl3 cbM ![0, 0, 0] inb_S8x64x256_S1x64x256_0_0_0).view.dmaCredit
/-- A row of the first exchange has some credit. -/
theorem N1_pos : 0 < N1 := View.dmaCredit_pos _ (by decide)
/-- A row of the second exchange has some credit. -/
theorem N2_pos : 0 < N2 := View.dmaCredit_pos _ (by decide)
/-- Every row of the first exchange has the same credit. -/
theorem credit4 (o h) : (sl4 wM o h).view.dmaCredit = N1 := rfl
/-- Every row of the second exchange has the same credit. -/
theorem credit3 (o h) : (sl3 cbM o h).view.dmaCredit = N2 := rfl

/-- The rectangle's elements are the row. -/
theorem set_rect4 (d : ℕ) (h) : (Rect.unit (s := S8x3x64x256) ![d, 0, 0, 0] S1x3x64x256.size h).set = slot4 d := by
  ext i
  rw [Rect.mem_set_unit, mem_slot4]
  constructor
  · intro H
    have := H 0
    have h1 : S1x3x64x256.size 0 = 1 := rfl
    have h2 : (![d, 0, 0, 0] : Fin 4 → ℕ) 0 = d := rfl
    rw [h1, h2] at this
    omega
  · intro H a
    fin_cases a
    · have h1 : S1x3x64x256.size 0 = 1 := rfl
      show d ≤ (i 0).val ∧ (i 0).val < d + 1
      omega
    · exact ⟨Nat.zero_le _, by have : (i 1).val < 3 := (i 1).isLt; show (i 1).val < 0 + 3; omega⟩
    · exact ⟨Nat.zero_le _, by have : (i 2).val < 64 := (i 2).isLt; show (i 2).val < 0 + 64; omega⟩
    · exact ⟨Nat.zero_le _, by have : (i 3).val < 256 := (i 3).isLt; show (i 3).val < 0 + 256; omega⟩

/-- The rectangle's elements are the row, in the buffers of the second exchange. -/
theorem set_rect3 (d : ℕ) (h) : (Rect.unit (s := S8x64x256) ![d, 0, 0] S1x64x256.size h).set = slot3 d := by
  ext i
  rw [Rect.mem_set_unit, mem_slot3]
  constructor
  · intro H
    have := H 0
    have h1 : S1x64x256.size 0 = 1 := rfl
    have h2 : (![d, 0, 0] : Fin 3 → ℕ) 0 = d := rfl
    rw [h1, h2] at this
    omega
  · intro H a
    fin_cases a
    · show d ≤ (i 0).val ∧ (i 0).val < d + 1
      omega
    · exact ⟨Nat.zero_le _, by have : (i 1).val < 64 := (i 1).isLt; show (i 1).val < 0 + 64; omega⟩
    · exact ⟨Nat.zero_le _, by have : (i 2).val < 256 := (i 2).isLt; show (i 2).val < 0 + 256; omega⟩

/-- The slice of the stage that a transfer names is its row. -/
theorem set_slS (d : ℕ) (h) : (sl4 stM ![d, 0, 0, 0] h).view.set = slot4 d := by
  show ((View.whole cc0_scratch0).slice _ |>.reshape _ _).set = _
  rw [View.set_reshape, View.set_slice_whole]; exact set_rect4 d h
/-- The slice of the first landing buffer that a transfer names is its row. -/
theorem set_slW (d : ℕ) (h) : (sl4 wM ![d, 0, 0, 0] h).view.set = slot4 d := by
  show ((View.whole cc0_scratch1).slice _ |>.reshape _ _).set = _
  rw [View.set_reshape, View.set_slice_whole]; exact set_rect4 d h
/-- The slice of the context that a transfer names is its row. -/
theorem set_slC (d : ℕ) (h) : (sl3 ctM ![d, 0, 0] h).view.set = slot3 d := by
  show ((View.whole cc0_scratch2).slice _ |>.reshape _ _).set = _
  rw [View.set_reshape, View.set_slice_whole]; exact set_rect3 d h
/-- The slice of the second landing buffer that a transfer names is its row. -/
theorem set_slB (d : ℕ) (h) : (sl3 cbM ![d, 0, 0] h).view.set = slot3 d := by
  show ((View.whole cc0_scratch3).slice _ |>.reshape _ _).set = _
  rw [View.set_reshape, View.set_slice_whole]; exact set_rect3 d h

/-- What a row copied into a row leaves: at each element of the target row, the source's element of the same place. -/
theorem land4 (c d : Dev nD) (h h') (fd : CT (F := F) cc0_scratch1) (fs : CT (F := F) cc0_scratch0) (i : S8x3x64x256.Idx) (hi : i ∈ slot4 c.val) :
    (sl4 wM ![c.val, 0, 0, 0] h).view.write (Elt F) fd ((sl4 stM ![d.val, 0, 0, 0] h').view.read (Elt F) fs) Finset.univ i
      = fs (row4 d i) := by
  have hi' : i ∈ (sl4 wM ![c.val, 0, 0, 0] h).view.set := by rw [set_slW]; exact hi
  obtain ⟨y, -, rfl⟩ := Finset.mem_map.mp hi'
  rw [View.write_emb_of_mem _ _ (Finset.mem_univ y), View.read_apply]
  show fs _ = fs _
  congr 1
  funext a
  fin_cases a
  · refine Fin.ext ?_
    have h0 : ∀ n : ℕ, n < 1 → d.val + 1 * n = d.val := fun n hn => by omega
    exact h0 _ (Fin.isLt _)
  all_goals rfl

/-- Row `d` of a context landed in row `c` of a second landing buffer: each element is the one in the same place of the source row. -/
theorem land3 (c d : Dev nD) (h h') (fd : CT (F := F) cc0_scratch3) (fs : CT (F := F) cc0_scratch2) (i : S8x64x256.Idx) (hi : i ∈ slot3 c.val) :
    (sl3 cbM ![c.val, 0, 0] h).view.write (Elt F) fd ((sl3 ctM ![d.val, 0, 0] h').view.read (Elt F) fs) Finset.univ i
      = fs (row3 d i) := by
  have hi' : i ∈ (sl3 cbM ![c.val, 0, 0] h).view.set := by rw [set_slB]; exact hi
  obtain ⟨y, -, rfl⟩ := Finset.mem_map.mp hi'
  rw [View.write_emb_of_mem _ _ (Finset.mem_univ y), View.read_apply]
  show fs _ = fs _
  congr 1
  funext a
  fin_cases a
  · refine Fin.ext ?_
    have h0 : ∀ n : ℕ, n < 1 → d.val + 1 * n = d.val := fun n hn => by omega
    exact h0 _ (Fin.isLt _)
  all_goals rfl

/-! ## Contents -/

/-- The staged inputs of device `c`. -/
def xs (c : Dev nD) : CT (F := F) cc0_stg0_0 := (win0_0.blk (0 : Fin 1)).view.read (Elt F) (m ((c : Thread nD τ).loc main_arg0))
/-- The staged query weights of device `c`. -/
def wqs (c : Dev nD) : CT (F := F) cc0_stg1_0 := (win0_1.blk (0 : Fin 1)).view.read (Elt F) (m ((c : Thread nD τ).loc main_arg1))
/-- The staged keys of device `c`. -/
def ks (c : Dev nD) : CT (F := F) cc0_stg2_0 := (win0_2.blk (0 : Fin 1)).view.read (Elt F) (m ((c : Thread nD τ).loc main_arg2))
/-- The staged values of device `c`. -/
def vs (c : Dev nD) : CT (F := F) cc0_stg3_0 := (win0_3.blk (0 : Fin 1)).view.read (Elt F) (m ((c : Thread nD τ).loc main_arg3))
/-- The staged output weights of device `c`. -/
def wos (c : Dev nD) : CT (F := F) cc0_stg4_0 := (win0_4.blk (0 : Fin 1)).view.read (Elt F) (m ((c : Thread nD τ).loc main_arg4))

/-- Either batch lies inside the activations. -/
theorem inbX (b : ℕ) (hb : b < 2) : ∀ a, (![b, 0, 0] : Fin 3 → ℕ) a + S1x256x512.size a ≤ S2x256x512.size a := by
  intro a; fin_cases a
  · show b + 1 ≤ 2; omega
  · exact Nat.le_refl _
  · exact Nat.le_refl _
/-- Each block of 64 rows lies inside the keys, and inside the values. -/
theorem inbK (b r : ℕ) (hb : b < 2) (hr : r < 4) : ∀ a, (![b, 64 * r, 0, 0] : Fin 4 → ℕ) a + S1x64x4x64.size a ≤ S2x256x4x64.size a := by
  intro a; fin_cases a
  · show b + 1 ≤ 2; omega
  · show 64 * r + 64 ≤ 256; omega
  · exact Nat.le_refl _
  · exact Nat.le_refl _

/-- Each block of 64 rows lies inside a batch's queries. -/
theorem slicesQ' : ∀ r : Fin 4, S256x256.Slices ![64 * r.val, 0] S64x256 := by decide
/-- Each block of 64 rows lies inside a batch's queries, the block's number a natural number. -/
theorem slicesQ (r : ℕ) (hr : r < 4) : S256x256.Slices ![64 * r, 0] S64x256 := slicesQ' ⟨r, hr⟩

/-- A device's batch is one of two. -/
theorem divlt (d : Dev nD) : d.val / 4 < 2 := by have : d.val < 8 := d.2; omega
/-- A device's residue is one of four. -/
theorem modlt (d : Dev nD) : d.val % 4 < 4 := Nat.mod_lt _ (by decide)

/-- The query rows device `c` stages for device `d`: batch `d / 4`, rows `64 (d % 4) ..`. -/
def qpay (c d : Dev nD) : FVec F S1x1x64x256 .bf16 :=
  shapeCast S1x1x64x256
    (extractStridedSlice S64x256 ![64 * (d.val % 4), 0]
      (k0_pay2 ((wqM : Memref sig .tc .vmem S512x256 .f32).view.readAt (Elt F) (Rect.unit (s := S512x256) ![0, 0] S512x256.size inb_S512x256_S512x256_0_0).toLoadRect (wqs m c))
        ((xM : Memref sig .tc .vmem S2x256x512 .f32).view.readAt (Elt F) (Rect.unit (s := S2x256x512) ![d.val / 4, 0, 0] S1x256x512.size (inbX _ (divlt d))).toLoadRect (xs m c)))
      (slicesQ _ (modlt d))) shapeCasts_S64x256_S1x1x64x256
/-- The key rows it stages for `d`, and the value rows. -/
def kpay (c d : Dev nD) : FVec F S1x1x64x256 .bf16 :=
  k0_pay4 ((kM : Memref sig .tc .vmem S2x256x4x64 .f32).view.readAt (Elt F) (Rect.unit (s := S2x256x4x64) ![d.val / 4, 64 * (d.val % 4), 0, 0] S1x64x4x64.size (inbK _ _ (divlt d) (modlt d))).toLoadRect (ks m c))
/-- The value rows device `c` stages for device `d`. -/
def vpay (c d : Dev nD) : FVec F S1x1x64x256 .bf16 :=
  k0_pay4 ((vM : Memref sig .tc .vmem S2x256x4x64 .f32).view.readAt (Elt F) (Rect.unit (s := S2x256x4x64) ![d.val / 4, 64 * (d.val % 4), 0, 0] S1x64x4x64.size (inbK _ _ (divlt d) (modlt d))).toLoadRect (vs m c))

/-- The three by number. -/
def spay (c d : Dev nD) : Fin 3 → FVec F S1x1x64x256 .bf16
  | 0 => qpay m c d
  | 1 => kpay m c d
  | 2 => vpay m c d

/-- The place inside a stored piece. -/
def inPiece (i : S8x3x64x256.Idx) : S1x1x64x256.Idx := fun
  | 0 => (0 : Fin 1) | 1 => (0 : Fin 1) | 2 => (show Fin 64 from i 2) | 3 => (show Fin 256 from i 3)

/-- The stage of device `c` once filled. -/
def G (c : Dev nD) : CT (F := F) cc0_scratch0 := fun i => spay m c (show Fin 8 from i 0) (show Fin 3 from i 1) (inPiece i)
/-- The first landing buffer of device `c` once every row has arrived: row `p` is row `c` of device `p`'s stage. -/
def Wf (c : Dev nD) : CT (F := F) cc0_scratch1 := fun i => G m (show Fin 8 from i 0) (row4 c i)

/-- Each of the three parts lies inside a landing buffer. -/
theorem inb81 (a : ℕ) (ha : a < 3) : ∀ b, (![0, a, 0, 0] : Fin 4 → ℕ) b + S8x1x64x256.size b ≤ S8x3x64x256.size b := by
  intro b; fin_cases b
  · exact Nat.le_refl _
  · show a + 1 ≤ 3; omega
  · exact Nat.le_refl _
  · exact Nat.le_refl _

/-- The queries, keys and values device `c` attends over, read from that buffer. -/
def part (c : Dev nD) (a : Fin 3) : Vec F S8x1x64x256 .bf16 :=
  (wM : Memref sig .tc .vmem S8x3x64x256 .bf16).view.readAt (Elt F) (Rect.unit (s := S8x3x64x256) ![0, a.val, 0, 0] S8x1x64x256.size (inb81 _ a.2)).toLoadRect (Wf m c)
/-- The context device `c` computes. -/
def Cf (c : Dev nD) : CT (F := F) cc0_scratch2 :=
  k0_pay43 (k0_pay38 (part m c 0)) (k0_pay39 (part m c 1)) (k0_pay40 (part m c 2)) (k0_pay41 (part m c 0) (part m c 1) (part m c 2))
    (k0_pay42 (part m c 0) (part m c 1) (part m c 2))
/-- The second landing buffer of device `c` once every row has arrived: row `p` is row `c` of device `p`'s context. -/
def Bf (c : Dev nD) : CT (F := F) cc0_scratch3 := fun i => Cf m (show Fin 8 from i 0) (row3 c i)

/-- One row of that buffer, as the final loads read it. -/
def brow (c : Dev nD) (p : ℕ) (h : ∀ a, (![p, 0, 0] : Fin 3 → ℕ) a + S1x64x256.size a ≤ S8x64x256.size a) : Vec F S1x64x256 .bf16 :=
  (cbM : Memref sig .tc .vmem S8x64x256 .bf16).view.readAt (Elt F) (Rect.unit (s := S8x64x256) ![p, 0, 0] S1x64x256.size h).toLoadRect (Bf m c)
/-- The staged output weights as the kernel reads them. -/
def wor (c : Dev nD) : Vec F S256x512 .f32 :=
  (woM : Memref sig .tc .vmem S256x512 .f32).view.readAt (Elt F) (Rect.unit (s := S256x512) ![0, 0] S256x512.size inb_S256x512_S256x512_0_0).toLoadRect (wos m c)
/-- The two batches of the result. -/
def out0 (c : Dev nD) : FVec F S1x256x512 .f32 :=
  k0_pay56 (k0_pay52 (wor m c)) (k0_pay53 (brow m c 0 inb_S8x64x256_S1x64x256_0_0_0)) (k0_pay54 (brow m c 1 inb_S8x64x256_S1x64x256_1_0_0))
    (k0_pay55 (brow m c 2 inb_S8x64x256_S1x64x256_2_0_0)) (brow m c 3 inb_S8x64x256_S1x64x256_3_0_0)
/-- The second batch of the result. -/
def out1 (c : Dev nD) : FVec F S1x256x512 .f32 :=
  k0_pay57 (k0_pay52 (wor m c)) (brow m c 4 inb_S8x64x256_S1x64x256_4_0_0) (brow m c 5 inb_S8x64x256_S1x64x256_5_0_0)
    (brow m c 6 inb_S8x64x256_S1x64x256_6_0_0) (brow m c 7 inb_S8x64x256_S1x64x256_7_0_0)
/-- The place inside a batch of the result. -/
def inBatch (i : S2x256x512.Idx) : S1x256x512.Idx := fun
  | 0 => (0 : Fin 1) | 1 => (show Fin 256 from i 1) | 2 => (show Fin 512 from i 2)
/-- The result on device `c`. -/
def outF (c : Dev nD) : CT (F := F) cc0_stg5_0 := fun i => if (i 0).val = 0 then out0 m c (inBatch i) else out1 m c (inBatch i)

/-! ## Ownership of rows -/

/-- The stage of device `c`. -/
abbrev lst (c : Dev nD) : Loc nD τ sig := (c : Thread nD τ).loc cc0_scratch0
/-- The first landing buffer of device `c`. -/
abbrev lw (c : Dev nD) : Loc nD τ sig := (c : Thread nD τ).loc cc0_scratch1
/-- The context buffer of device `c`. -/
abbrev lct (c : Dev nD) : Loc nD τ sig := (c : Thread nD τ).loc cc0_scratch2
/-- The second landing buffer of device `c`. -/
abbrev lcb (c : Dev nD) : Loc nD τ sig := (c : Thread nD τ).loc cc0_scratch3

/-- Row `d` of a device's buffer, at given contents. -/
def stP (c : Dev nD) (d : ℕ) (f : CT (F := F) cc0_scratch0) : sProp 𝕄 := iprop((lst c) ↦[slot4 d]{fullShare} f)
/-- Row `d` of the first landing buffer. -/
def wP (c : Dev nD) (d : ℕ) (f : CT (F := F) cc0_scratch1) : sProp 𝕄 := iprop((lw c) ↦[slot4 d]{fullShare} f)
/-- Row `d` of the context buffer. -/
def ctP (c : Dev nD) (d : ℕ) (f : CT (F := F) cc0_scratch2) : sProp 𝕄 := iprop((lct c) ↦[slot3 d]{fullShare} f)
/-- Row `d` of the second landing buffer. -/
def cbP (c : Dev nD) (d : ℕ) (f : CT (F := F) cc0_scratch3) : sProp 𝕄 := iprop((lcb c) ↦[slot3 d]{fullShare} f)

/-- A row of the stage may be handed over through a cell. -/
instance stP_storable (c : Dev nD) (d : ℕ) (f) : BI.Storable (upEmb : UEmb _ 𝕄) (stP (F := F) c d f) := by unfold stP; infer_instance
/-- A row of the first landing buffer may be handed over through a cell. -/
instance wP_storable (c : Dev nD) (d : ℕ) (f) : BI.Storable (upEmb : UEmb _ 𝕄) (wP (F := F) c d f) := by unfold wP; infer_instance
/-- A row of the context may be handed over through a cell. -/
instance ctP_storable (c : Dev nD) (d : ℕ) (f) : BI.Storable (upEmb : UEmb _ 𝕄) (ctP (F := F) c d f) := by unfold ctP; infer_instance
/-- A row of the second landing buffer may be handed over through a cell. -/
instance cbP_storable (c : Dev nD) (d : ℕ) (f) : BI.Storable (upEmb : UEmb _ 𝕄) (cbP (F := F) c d f) := by unfold cbP; infer_instance

/-! ## The schedule -/

/-- What device `p`'s barrier signal hands device `c`: row `c` of `p`'s two landing buffers. -/
def barPay (c p : Dev nD) : sProp 𝕄 := iprop((∃ f, wP p c.val f) ∗ (∃ f, cbP p c.val f))

/-- Who pays into a device's cell of each kind. -/
def dut (n : ℕ) (c : Dev nD) : Finset (Dev nD) :=
  if n = 18 ∨ n = 8 ∨ n = 17 then Finset.univ.erase c
  else if n < 8 then (if n = c.val then ∅ else {c})
  else if n < 17 then (if n = 9 + c.val then ∅ else {c})
  else ∅
/-- How much one payment into a cell of each kind is. -/
def amt (n : ℕ) : ℕ := if n = 18 then 1 else if n ≤ 8 then N1 else N2
/-- What a payment by device `p` into a cell of device `c` hands over, by the cell's kind. -/
def pay (n : ℕ) (c p : Dev nD) : sProp 𝕄 :=
  if n = 18 then barPay c p
  else if n = 8 then wP c p.val (Wf m c)
  else if n = 17 then cbP c p.val (Bf m c)
  else if n < 8 then stP c n (G m c)
  else ctP c (n - 9) (Cf m c)

/-- The schedule: each cell has one round, with these payers, amounts and contents. -/
def rd : Rounds.Schedule (GSem nD τ sig) (Dev nD) 𝕄 where
  duties g r := if r = 0 then dut (kindOf g.2) g.1.1 else ∅
  unitless _ := False
  amount g _ _ := amt (kindOf g.2)
  payload g _ d := pay m (kindOf g.2) g.1.1 d
  amount_pos g _ _ _ := by
    unfold amt; split
    · exact Nat.one_pos
    · split
      · exact N1_pos
      · exact N2_pos

/-- Everything that the schedule hands over may be handed over. -/
instance rd_storable (g : GSem nD τ sig) (r : ℕ) (d : Dev nD) :
    BI.Storable (upEmb : UEmb _ 𝕄) ((rd (F := F) m).payload g r d) := by
  show BI.Storable upEmb (pay m (kindOf g.2) g.1.1 d)
  unfold pay barPay
  (repeat' split) <;> infer_instance

/-- Who pays into a numbered cell. -/
theorem duties_k (c : Dev nD) (k : Fin 19) : (rd (F := F) m).duties (kcell (c, k)) 0 = dut k.val c := by
  show (if 0 = 0 then dut (kindOf (csem k)) c else ∅) = _
  rw [if_pos rfl, kindOf_csem]
/-- Nobody pays after the one round. -/
theorem duties_later (g : GSem nD τ sig) : ∀ r, 1 ≤ r → (rd (F := F) m).duties g r = ∅ :=
  fun r hr => if_neg (by omega)
/-- How much a payment into a numbered cell is. -/
theorem amount_k (c : Dev nD) (k : Fin 19) (d : Dev nD) : (rd (F := F) m).amount (kcell (c, k)) 0 d = amt k.val := by
  show amt (kindOf (csem k)) = _
  rw [kindOf_csem]
/-- What a payment into a numbered cell hands over. -/
theorem payload_k (c : Dev nD) (k : Fin 19) (d : Dev nD) : (rd (F := F) m).payload (kcell (c, k)) 0 d = pay m k.val c d := by
  show pay m (kindOf (csem k)) c d = _
  rw [kindOf_csem]
/-- A cell's round sums to the number of payers times the amount of each. -/
theorem expect_k (c : Dev nD) (k : Fin 19) : (rd (F := F) m).expect (kcell (c, k)) 0 = (dut k.val c).card * amt k.val := by
  unfold Schedule.expect Schedule.amountOf
  rw [duties_k, Finset.sum_congr rfl fun d _ => amount_k m c k d, Finset.sum_const, smul_eq_mul]

/-- Every peer pays into a device's barrier. -/
theorem dut_ba (c : Dev nD) : dut 18 c = Finset.univ.erase c := rfl
/-- Every peer pays into a device's first arrivals. -/
theorem dut_qr (c : Dev nD) : dut 8 c = Finset.univ.erase c := rfl
/-- Every peer pays into a device's second arrivals. -/
theorem dut_cr (c : Dev nD) : dut 17 c = Finset.univ.erase c := rfl
/-- A device alone pays into its first send cell towards a peer, and nobody into the one towards itself. -/
theorem dut_qs (c d : Dev nD) : dut d.val c = if d = c then ∅ else {c} := by revert c d; decide
/-- A device alone pays into its second send cell towards a peer, and nobody into the one towards itself. -/
theorem dut_cs (c d : Dev nD) : dut (9 + d.val) c = if d = c then ∅ else {c} := by revert c d; decide
/-- A device has seven peers. -/
theorem card_peers (c : Dev nD) : (Finset.univ.erase c).card = 7 := by revert c; decide
/-- A barrier signal is one unit. -/
theorem amt_ba : amt 18 = 1 := rfl
/-- A first arrival is a row's credit. -/
theorem amt_qr : amt 8 = N1 := rfl
/-- A second arrival is a row's credit. -/
theorem amt_cr : amt 17 = N2 := rfl
/-- A first send is a row's credit. -/
theorem amt_qs (d : Dev nD) : amt d.val = N1 := by
  have : d.val < 8 := d.2
  unfold amt; rw [if_neg (by omega), if_pos (by omega)]
/-- A second send is a row's credit. -/
theorem amt_cs (d : Dev nD) : amt (9 + d.val) = N2 := by
  have : d.val < 8 := d.2
  unfold amt; rw [if_neg (by omega), if_neg (by omega)]
/-- A barrier signal hands over the rows that its receiver will write. -/
theorem pay_ba (c p : Dev nD) : pay m 18 c p = barPay c p := rfl
/-- A first arrival from `p` hands over row `p` of the landing buffer, at its contents. -/
theorem pay_qr (c p : Dev nD) : pay m 8 c p = wP c p.val (Wf m c) := rfl
/-- A second arrival from `p` hands over row `p` of the landing buffer, at its contents. -/
theorem pay_cr (c p : Dev nD) : pay m 17 c p = cbP c p.val (Bf m c) := rfl
/-- A finished first send towards `d` hands row `d` of the stage back. -/
theorem pay_qs (c d p : Dev nD) : pay m d.val c p = stP c d.val (G m c) := by
  have : d.val < 8 := d.2
  unfold pay; rw [if_neg (by omega), if_neg (by omega), if_neg (by omega), if_pos (by omega)]
/-- A finished second send towards `d` hands row `d` of the context back. -/
theorem pay_cs (c d p : Dev nD) : pay m (9 + d.val) c p = ctP c d.val (Cf m c) := by
  have : d.val < 8 := d.2
  unfold pay; rw [if_neg (by omega), if_neg (by omega), if_neg (by omega), if_neg (by omega), Nat.add_sub_cancel_left]

/-! ## What each device owes; the levels -/

/-- The credit of one arrival at each device of `S`, at the cell numbered `k`. -/
def owe (k : Fin 19) (n : ℕ) (S : Finset (Dev nD)) : CellTallies nD τ sig Unit := ∑ d ∈ S, tallyAt (kcell (d, k)) () n

/-- Owed while the devices of `S` are still to be sent their context rows. -/
def OC (S : Finset (Dev nD)) : CellTallies nD τ sig Unit := owe kcr N2 S
/-- Owed while the devices of `S` are still to be sent their stage rows: those, and the whole second exchange. -/
def OQ (c : Dev nD) (S : Finset (Dev nD)) : CellTallies nD τ sig Unit := OC (Finset.univ.erase c) + owe kqr N1 S
/-- Owed while the devices of `S` are still to be signalled: those signals, and both exchanges. -/
def OB (c : Dev nD) (S : Finset (Dev nD)) : CellTallies nD τ sig Unit := OQ c (Finset.univ.erase c) + owe kba 1 S
/-- At launch: a unit at each peer's barrier, one row's credit at each peer's two arrival cells. -/
def O₀ (c : Dev nD) : CellTallies nD τ sig Unit := OB c (Finset.univ.erase c)

/-- What is owed to `S` is what is owed to the rest of `S` and to one of its members. -/
theorem owe_insert (k : Fin 19) (n : ℕ) {S : Finset (Dev nD)} {d : Dev nD} (h : d ∈ S) :
    owe k n S = owe k n (S.erase d) + tallyAt (kcell (d, k)) () n := (Finset.sum_erase_add S _ h).symm
/-- Nothing is owed to nobody. -/
theorem owe_empty (k : Fin 19) (n : ℕ) : owe k n ∅ = 0 := rfl

/-- Each cell of a main core has one kind of credit. -/
def L (g : GSem nD τ sig) : Finset Unit := if g.1.2 = .tc then {()} else ∅
/-- Barriers below first arrivals below second arrivals; everything else lowest. -/
def lv (g : GSem nD τ sig) (_ : Unit) : ℕ :=
  if kindOf g.2 = 18 then 1 else if kindOf g.2 = 8 then 2 else if kindOf g.2 = 17 then 3 else 0

/-- Cells of other cores have none. -/
theorem L_of_ne (g : GSem nD τ sig) (h : g.1.2 ≠ .tc) : L g = ∅ := if_neg h
/-- A main core's semaphore has the one kind. -/
theorem L_tc (c : Dev nD) (sm : SemLoc sig) : L ((c : Thread nD τ), sm) = {()} := if_pos rfl
/-- A numbered cell has the one kind. -/
theorem L_k (x : Dev nD × Fin 19) : L (kcell x) = {()} := if_pos rfl
/-- The level of a numbered cell. -/
theorem lv_k (x : Dev nD × Fin 19) (u : Unit) :
    lv (kcell x) u = if x.2.val = 18 then 1 else if x.2.val = 8 then 2 else if x.2.val = 17 then 3 else 0 := by
  show (if kindOf (csem x.2) = 18 then 1 else if kindOf (csem x.2) = 8 then 2 else if kindOf (csem x.2) = 17 then 3 else 0) = _
  rw [kindOf_csem]

/-- Whatever is owed is owed at that cell of some device of the set. -/
theorem owe_pos {k : Fin 19} {n : ℕ} {S : Finset (Dev nD)} {g : GSem nD τ sig} {u : Unit} (h : 0 < owe k n S g u) :
    ∃ d ∈ S, g = kcell (d, k) := by
  unfold owe at h
  rw [Finset.sum_apply, Finsupp.finset_sum_apply] at h
  obtain ⟨d, hd, hne⟩ := Finset.exists_ne_zero_of_sum_ne_zero (Nat.pos_iff_ne_zero.mp h)
  refine ⟨d, hd, ?_⟩
  rw [tallyAt_apply] at hne
  by_contra hg
  exact hne (if_neg fun h' => hg h'.1)

/-- During the second exchange only second arrivals are owed. -/
theorem OC_pos {S : Finset (Dev nD)} {g : GSem nD τ sig} {u : Unit} (h : 0 < OC S g u) : ∃ d, g = kcell (d, kcr) :=
  let ⟨d, _, e⟩ := owe_pos h; ⟨d, e⟩
/-- During the first exchange only arrivals are owed. -/
theorem OQ_pos {c : Dev nD} {S : Finset (Dev nD)} {g : GSem nD τ sig} {u : Unit} (h : 0 < OQ c S g u) :
    ∃ d, g = kcell (d, kcr) ∨ g = kcell (d, kqr) := by
  unfold OQ at h
  rw [Pi.add_apply, Finsupp.add_apply] at h
  rcases Nat.add_pos_iff_pos_or_pos.mp h with h | h
  · obtain ⟨d, e⟩ := OC_pos h; exact ⟨d, .inl e⟩
  · obtain ⟨d, _, e⟩ := owe_pos h; exact ⟨d, .inr e⟩
/-- At the start only arrivals and barrier units are owed. -/
theorem OB_pos {c : Dev nD} {S : Finset (Dev nD)} {g : GSem nD τ sig} {u : Unit} (h : 0 < OB c S g u) :
    ∃ d, g = kcell (d, kcr) ∨ g = kcell (d, kqr) ∨ g = kcell (d, kba) := by
  unfold OB at h
  rw [Pi.add_apply, Finsupp.add_apply] at h
  rcases Nat.add_pos_iff_pos_or_pos.mp h with h | h
  · obtain ⟨d, e⟩ := OQ_pos h; exact ⟨d, e.elim .inl fun e => .inr (.inl e)⟩
  · obtain ⟨d, _, e⟩ := owe_pos h; exact ⟨d, .inr (.inr e)⟩

/-- Owing only cells above level `n`, a device may wait on a cell of level `n` or lower. -/
theorem mayWait_of (c : Dev nD) (sm : SemLoc sig) (O : CellTallies nD τ sig Unit) (n : ℕ)
    (hsm : lv ((c : Thread nD τ), sm) () ≤ n)
    (hO : ∀ g u, 0 < O g u → ∃ x, g = kcell x ∧ n < lv (kcell x) ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨x, rfl, _⟩ := hO g u hg; rw [L_k]; exact Finset.mem_singleton_self _)
    (fun p hp => by rw [Finset.mem_singleton.mp hp]; exact hsm)
    (fun g u hg => by obtain ⟨x, rfl, h⟩ := hO g u hg; exact h)

/-- Second arrivals have level three. -/
theorem lv_cr (d : Dev nD) : lv (kcell (d, kcr)) () = 3 := by rw [lv_k]; rfl
/-- First arrivals have level two. -/
theorem lv_qr (d : Dev nD) : lv (kcell (d, kqr)) () = 2 := by rw [lv_k]; rfl
/-- Barriers have level one. -/
theorem lv_ba (d : Dev nD) : lv (kcell (d, kba)) () = 1 := by rw [lv_k]; rfl

/-- The barrier wait, owing both exchanges' rows. -/
theorem mayWait_bar (c : Dev nD) (S : Finset (Dev nD)) : (levAts L lv : sProp 𝕄) ⊢ MayWait (c : Thread nD τ) (csem kba) () (OQ c S) :=
  mayWait_of c _ _ 1 (lv_ba c).le fun g u h => by
    obtain ⟨d, rfl | rfl⟩ := OQ_pos h
    · exact ⟨_, rfl, by rw [lv_cr]; decide⟩
    · exact ⟨_, rfl, by rw [lv_qr]; decide⟩
/-- A wait on the first arrivals, owing the second exchange's rows. -/
theorem mayWait_qr (c : Dev nD) (S : Finset (Dev nD)) : (levAts L lv : sProp 𝕄) ⊢ MayWait (c : Thread nD τ) (csem kqr) () (OC S) :=
  mayWait_of c _ _ 2 (lv_qr c).le fun g u h => by
    obtain ⟨d, rfl⟩ := OC_pos h
    exact ⟨_, rfl, by rw [lv_cr]; decide⟩
/-- A staging wait, at launch or at the end. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait_of c _ _ 0 ?_ fun g u h => ?_
    · show (if kindOf (.dma q) = 18 then 1 else if kindOf (.dma q) = 8 then 2 else if kindOf (.dma q) = 17 then 3 else 0) ≤ 0
      have : kindOf (SemLoc.dma q : SemLoc sig) = 100 := if_neg (by omega)
      rw [this]; decide
    · obtain ⟨d, rfl | rfl | rfl⟩ := OB_pos h
      · exact ⟨_, rfl, by rw [lv_cr]; decide⟩
      · exact ⟨_, rfl, by rw [lv_qr]; decide⟩
      · exact ⟨_, rfl, by rw [lv_ba]; decide⟩
  · rw [MayWait_zero]; iintro -; iempintro

/-! ## Ghost state -/

/-- Every cell's invariant, at the names the launch gave, and that each has reached its one round. -/
def records (K : Dev nD × Fin 19 → ℕ) : sProp 𝕄 :=
  iprop((bigSep Finset.univ fun ck : Dev nD × Fin 19 => cellInv ER (rd m) (K ck) (kcell ck))
    ∗ bigSep Finset.univ fun ck : Dev nD × Fin 19 => reached ER (kcell ck) 0)

/-- The records may be used again and again. -/
instance records_persistent (K : Dev nD × Fin 19 → ℕ) : BI.Persistent (records m K) := by unfold records; infer_instance

/-- The records hold each cell's invariant. -/
theorem inv_at (K : Dev nD × Fin 19 → ℕ) (ck : Dev nD × Fin 19) : records m K ⊢ cellInv ER (rd m) (K ck) (kcell ck) := by
  unfold records; iintro ⟨H, -⟩
  iapply (show (bigSep Finset.univ fun ck : Dev nD × Fin 19 => (cellInv ER (rd m) (K ck) (kcell ck) : sProp 𝕄)) ⊢ cellInv ER (rd m) (K ck) (kcell ck) from bigSep_elim (Finset.mem_univ ck)); iexact H
/-- The records say that each cell has reached its round. -/
theorem reached_at (K : Dev nD × Fin 19 → ℕ) (ck : Dev nD × Fin 19) : records m K ⊢ reached ER (kcell ck) 0 := by
  unfold records; iintro ⟨-, H⟩
  iapply (show (bigSep Finset.univ fun ck : Dev nD × Fin 19 => (reached ER (kcell ck) 0 : sProp 𝕄)) ⊢ reached ER (kcell ck) 0 from bigSep_elim (Finset.mem_univ ck)); iexact H

/-- Device `c`'s duty token at device `e`'s cell `k`. -/
abbrev tok (e : Dev nD) (k : Fin 19) (c : Dev nD) : sProp 𝕄 := dutyTok ER (kcell (e, k)) 0 c

/-- The position of every cell of a device. -/
def ats (c : Dev nD) : sProp 𝕄 := bigSep Finset.univ fun k : Fin 19 => atPos ER (kcell (c, k)) 0 ∅ 0

/-- The tokens device `c` pays with towards device `d`. -/
def payTok (c d : Dev nD) : sProp 𝕄 :=
  iprop(tok d kba c ∗ tok d kqr c ∗ tok d kcr c ∗ tok c (kqs d) c ∗ tok c (kcs d) c)

end Cert.KernelIdealProof

end
-- ==== Proof.Steps.lean ====
/-
One lemma per kind of step the kernel takes: a barrier signal, a store into the stage, the barrier wait, a send of either
exchange, a local copy of either exchange, a wait for arrivals, a wait for a send to have left.
-/
module

public import proofs.«01_k».proof.Proof.Proto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop needs a measure. -/
abbrev 𝒱₀ : Variants := Variants.none

/-- A family over a set is one member and the rest. -/
theorem bErase {I : Type} [DecidableEq I] {s : Finset I} {i : I} (hi : i ∈ s) (Φ : I → sProp 𝕄) :
    bigSep s Φ = iprop(Φ i ∗ bigSep (s.erase i) Φ) := BI.bigSep_erase hi
/-- A family of pairs is a pair of families. -/
theorem bSep {I : Type} [DecidableEq I] (s : Finset I) (Φ Ψ : I → sProp 𝕄) :
    bigSep s (fun i => iprop(Φ i ∗ Ψ i)) = iprop(bigSep s Φ ∗ bigSep s Ψ) := BI.bigSep_sep s Φ Ψ

/-! ## A family over a set, some of it still to be processed -/

/-- `Pre` at the members of `S₀` still in `S`, `Post` at the others. -/
def two (S₀ S : Finset (Dev nD)) (Pre Post : Dev nD → sProp 𝕄) : sProp 𝕄 := bigSep S₀ fun d => if d ∈ S then Pre d else Post d

/-- To process a member take its `Pre`; its `Post` puts it back. -/
theorem two_step {S₀ S : Finset (Dev nD)} {Pre Post : Dev nD → sProp 𝕄} {d : Dev nD} (h0 : d ∈ S₀) (h : d ∈ S) :
    two S₀ S Pre Post ⊢ iprop(Pre d ∗ (Post d -∗ two S₀ (S.erase d) Pre Post)) := by
  unfold two
  rw [bErase h0 (Φ := fun e => if e ∈ S then Pre e else Post e), bErase h0 (Φ := fun e => if e ∈ S.erase d then Pre e else Post e),
    if_pos h, if_neg (Finset.notMem_erase d S)]
  rw [bigSep_congr (s := S₀.erase d) (Φ := fun e => if e ∈ S then Pre e else Post e) (Ψ := fun e => if e ∈ S.erase d then Pre e else Post e)
    (fun e he => by
      have hne := Finset.ne_of_mem_erase he
      simp only [Finset.mem_erase, ne_eq, hne, not_false_eq_true, true_and])]
  iintro ⟨H, Hr⟩
  isplitl [H]; · iexact H
  iintro Hp
  isplitl [Hp]; · iexact Hp
  iexact Hr

/-- At first every member is at `Pre`. -/
theorem two_start (S₀ : Finset (Dev nD)) (Pre Post : Dev nD → sProp 𝕄) : two S₀ S₀ Pre Post = bigSep S₀ Pre :=
  bigSep_congr fun d hd => if_pos hd
/-- At the end every member is at `Post`. -/
theorem two_done (S₀ S : Finset (Dev nD)) (hS : S = ∅) (Pre Post : Dev nD → sProp 𝕄) : two S₀ S Pre Post = bigSep S₀ Post :=
  hS ▸ bigSep_congr fun d _ => if_neg (Finset.notMem_empty d)

/-! ## Signals -/

/-- Before signalling the devices of `S`: their barrier units owed, and for each the rows of this device's landing buffers
    it writes. -/
def sigSt (c : Dev nD) (S : Finset (Dev nD)) : sProp 𝕄 :=
  iprop((∃ W, owes (c : Thread nD τ) (OB c S) W) ∗ bigSep S fun d => iprop(tok d kba c ∗ (∃ f, wP c d.val f) ∗ ∃ f, cbP c d.val f))

/-- One signal less to owe. -/
theorem OB_erase (c : Dev nD) {S : Finset (Dev nD)} {d : Dev nD} (h : d ∈ S) :
    OB c S = OB c (S.erase d) + tallyAt (kcell (d, kba)) () 1 := by
  unfold OB; rw [owe_insert kba 1 h, add_assoc]
/-- One row of the first exchange less to owe. -/
theorem OQ_erase (c : Dev nD) {S : Finset (Dev nD)} {d : Dev nD} (h : d ∈ S) :
    OQ c S = OQ c (S.erase d) + tallyAt (kcell (d, kqr)) () N1 := by
  unfold OQ; rw [owe_insert kqr N1 h, add_assoc]
/-- One row of the second exchange less to owe. -/
theorem OC_erase {S : Finset (Dev nD)} {d : Dev nD} (h : d ∈ S) :
    OC S = OC (S.erase d) + tallyAt (kcell (d, kcr)) () N2 := owe_insert kcr N2 h
/-- With all signals sent the two exchanges are owed. -/
theorem OB_empty (c : Dev nD) : OB c ∅ = OQ c (Finset.univ.erase c) := by unfold OB; rw [owe_empty, add_zero]
/-- With the first exchange sent the second is owed. -/
theorem OQ_empty (c : Dev nD) : OQ c ∅ = OC (Finset.univ.erase c) := by unfold OQ; rw [owe_empty, add_zero]
/-- With the second exchange sent nothing is owed. -/
theorem OC_empty : OC ∅ = 0 := owe_empty kcr N2

/-- A signal to device `p`. -/
theorem step_signal (K : Dev nD × Fin 19 → ℕ) (c : Dev nD) {S : Finset (Dev nD)} (p : Dev nD) (hp : p ∈ S) (hc : p ≠ c)
    {k' : ℕ} (hk' : 1 = k') {α : Type} {k : PUnit → Prog (TpuEff nD τ sig (Elt F) Λ₀ .tc) α} {Q : α → sProp 𝕄} :
    iprop(records m K ∗ sigSt c S)
      ⊢ iprop((sigSt c (S.erase p) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (p : Thread nD τ) barS k') k) Q) := by
  subst hk'
  unfold sigSt
  rw [bErase hp]
  iintro ⟨#HR, ⟨%W, HO⟩, ⟨Ht, Hw, Hb⟩, Hrest⟩ Hk
  iapply (Rounds.wp_signal 𝒱₀ ER (rd m) (c : Thread nD τ) none (dst := (p : Thread nD τ)) (sem := barS) (r := 0) (κ := K (p, kba)) (d := c)
      (by have := duties_k m p kba; rw [show kcell (p, kba) = ((p : Thread nD τ), SemLoc.reg barS) from rfl] at this; rw [this]
          exact Finset.mem_erase.mpr ⟨hc.symm, Finset.mem_univ _⟩)
      (amount_k m p kba c) () (OB c (S.erase p)) (OB_erase c hp)) $$ [HO Ht Hw Hb]
  · isplitr; · iapply (inv_at m K (p, kba)); iexact HR
    isplitl [HO]; · iexact HO
    isplitl [Ht]; · iexact Ht
    isplitl [Hw Hb]
    · rw [show (rd m).payload ((p : Thread nD τ), SemLoc.reg barS) 0 c = barPay p c from (payload_k m p kba c).trans (pay_ba m p c)]
      unfold barPay
      isplitl [Hw]; · iexact Hw
      iexact Hb
    · iapply (reached_at m K (p, kba)); iexact HR
  iintro HO
  iapply Hk
  isplitl [HO]; · iexists W; iexact HO
  iexact Hrest

/-! ## Loads of the staged inputs, and the stage's stores -/

/-- The first `k` pieces of the stage are in place. -/
def Agree (c : Dev nD) (k : ℕ) (f : CT (F := F) cc0_scratch0) : Prop :=
  ∀ i : S8x3x64x256.Idx, 3 * (i 0).val + (i 1).val < k → f i = G m c i
/-- The stage with its first `k` pieces in place. -/
def stgAt (c : Dev nD) (k : ℕ) : sProp 𝕄 := iprop(∃ f, ⌜Agree m c k f⌝ ∗ (lst c) ↦{fullShare} f)

/-- A load from the stage whose value nothing uses. -/
theorem step_peek (c : Dev nD) {n : ℕ} {r : LoadRect S8x3x64x256} {hl : stM.view.LoadsAt r} {α : Type}
    {k : (r.shape.Idx → Elt F .bf16) → Prog (TpuEff nD τ sig (Elt F) Λ₀ .tc) α} {Q : α → sProp 𝕄} :
    stgAt m c n
      ⊢ iprop((∀ v, stgAt m c n -∗ wp frame (wpE (defs₀ (F := F)) 𝒱₀ (c : Thread nD τ) none) Set.univ (k v) Q)
        -∗ wp frame (wpE (defs₀ (F := F)) 𝒱₀ (c : Thread nD τ) none) Set.univ (.op (.load stM r hl) k) Q) := by
  unfold stgAt
  iintro ⟨%f, %hf, H⟩ Hk
  iapply (wp_load 𝒱₀ (c : Thread nD τ) none Set.univ (m := stM) (Finset.subset_univ _)) $$ H
  iintro H
  iapply Hk
  iexists f
  isplitr; · ipureintro; exact hf
  iexact H

/-- Storing piece `n` makes one piece more in place. -/
theorem agree_step (c : Dev nD) {n : ℕ} (hn : n < 24) {h : ∀ a, (![n / 3, n % 3, 0, 0] : Fin 4 → ℕ) a + S1x1x64x256.size a ≤ S8x3x64x256.size a} {w : S1x1x64x256.Idx → Elt F .bf16}
    (hw : w = spay m c ⟨n / 3, by show n / 3 < 8; omega⟩ ⟨n % 3, Nat.mod_lt _ (by decide)⟩)
    {f : CT (F := F) cc0_scratch0} (hf : Agree m c n f) :
    Agree m c (n + 1) ((stM.access (Rect.unit (s := S8x3x64x256) ![n / 3, n % 3, 0, 0] S1x1x64x256.size h)).write (Elt F) f w Finset.univ) := by
  intro i hi
  have h1 : (i 1).val < 3 := (i 1).isLt
  by_cases hk : 3 * (i 0).val + (i 1).val = n
  · have e : (stM.access (Rect.unit (s := S8x3x64x256) ![n / 3, n % 3, 0, 0] S1x1x64x256.size h)).emb (inPiece i) = i := by
      funext a
      fin_cases a
      · refine Fin.ext ?_
        show n / 3 + 1 * 0 = (i 0).val
        omega
      · refine Fin.ext ?_
        show n % 3 + 1 * 0 = (i 1).val
        omega
      · refine Fin.ext ?_
        show 0 + 1 * (i 2).val = (i 2).val
        omega
      · refine Fin.ext ?_
        show 0 + 1 * (i 3).val = (i 3).val
        omega
    conv_lhs => rw [← e]
    rw [View.write_emb_of_mem _ _ (Finset.mem_univ _), hw]
    show spay m c _ _ (inPiece i) = spay m c _ _ (inPiece i)
    congr 2
    · omega
    · omega
  · rw [View.write_of_not_mem]
    · exact hf i (by omega)
    · intro hm
      obtain ⟨y, -, rfl⟩ := Finset.mem_map.mp hm
      apply hk
      have y0 : (y 0).val < 1 := (y 0).isLt
      have y1 : (y 1).val < 1 := (y 1).isLt
      show 3 * (n / 3 + 1 * (y 0).val) + (n % 3 + 1 * (y 1).val) = n
      omega

/-- The store of the stage's next piece. -/
theorem step_stage (c : Dev nD) {n : ℕ} (hn : n < 24) {o : Fin 4 → ℕ} (ho : o = ![n / 3, n % 3, 0, 0]) {h : ∀ a, o a + S1x1x64x256.size a ≤ S8x3x64x256.size a} {w : S1x1x64x256.Idx → Elt F .bf16}
    (hw : w = spay m c ⟨n / 3, by show n / 3 < 8; omega⟩ ⟨n % 3, Nat.mod_lt _ (by decide)⟩) {hx hm} {α : Type}
    {k : PUnit → Prog (TpuEff nD τ sig (Elt F) Λ₀ .tc) α} {Q : α → sProp 𝕄} :
    stgAt m c n
      ⊢ iprop((stgAt m c (n + 1) -∗ wp frame (wpE (defs₀ (F := F)) 𝒱₀ (c : Thread nD τ) none) Set.univ (k ⟨⟩) Q)
        -∗ wp frame (wpE (defs₀ (F := F)) 𝒱₀ (c : Thread nD τ) none) Set.univ
          (.op (.store stM (Rect.unit (s := S8x3x64x256) o S1x1x64x256.size h) w Finset.univ hx hm) k) Q) := by
  subst ho
  unfold stgAt
  iintro ⟨%f, %hf, H⟩ Hk
  iapply (wp_store 𝒱₀ (c : Thread nD τ) none Set.univ (m := stM) (r := Rect.unit (s := S8x3x64x256) ![n / 3, n % 3, 0, 0] S1x1x64x256.size h)
    (Mk := Finset.univ) (Finset.subset_univ _)) $$ H
  iintro H
  iapply Hk
  iexists ((stM.access (Rect.unit (s := S8x3x64x256) ![n / 3, n % 3, 0, 0] S1x1x64x256.size h)).write (Elt F) f w Finset.univ)
  isplitr; · ipureintro; exact agree_step m c hn hw hf
  iexact H

/-! ## The barrier wait -/

/-- The barrier wait: seven units taken, and from each peer the rows that this device will write. -/
theorem step_bar (K : Dev nD × Fin 19 → ℕ) (c : Dev nD) {k' : ℕ} (hk' : 7 = k') {α : Type}
    {k : PUnit → Prog (TpuEff nD τ sig (Elt F) Λ₀ .tc) α} {Q : α → sProp 𝕄} :
    iprop(records m K ∗ levAts L lv ∗ cred (tallyAt (kcell (c, kba)) () 7) ∗ (∃ W, owes (c : Thread nD τ) (OQ c (Finset.univ.erase c)) W)
        ∗ atPos ER (kcell (c, kba)) 0 ∅ 0)
      ⊢ iprop((((∃ W, owes (c : Thread nD τ) (OQ c (Finset.univ.erase c)) W) ∗ atPos ER (kcell (c, kba)) 1 ∅ 0
            ∗ bigSep (Finset.univ.erase c) fun p => barPay (F := F) c p)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS k') k) Q) := by
  subst hk'
  iintro ⟨#HR, #Hlev, Hc, ⟨%W, HO⟩, Hat⟩ Hk
  iapply (Rounds.wp_wait_rest_token 𝒱₀ ER (rd m) (c : Thread nD τ) none (κ := K (c, kba)) (sm := csem kba)
      (wpE_semWait_eq 𝒱₀ (c : Thread nD τ) none Set.univ) (Set.mem_univ _) () (O := OQ c (Finset.univ.erase c)) (W := W) (R := 0) (m := 0) (T := ∅)
      (by have := expect_k m c kba; rw [show dut (kba : Fin 19).val c = Finset.univ.erase c from rfl, card_peers] at this; exact this.symm)) $$ [Hc HO Hat]
  · isplitr; · iapply (inv_at m K (c, kba)); iexact HR
    isplitl [Hc]; · iexact Hc
    isplitl [HO]; · iexact HO
    isplitr; · iapply (mayWait_bar c); iexact Hlev
    iexact Hat
  iintro ⟨HO, Hat, -, Hp⟩
  iapply Hk
  isplitl [HO]; · iexists _; iexact HO
  isplitl [Hat]; · iexact Hat
  iapply (show (bigSep ((rd m).duties (kcell (c, kba)) 0 \ ∅) fun d => (rd m).payload (kcell (c, kba)) 0 d)
      ⊢ bigSep (Finset.univ.erase c) fun p => barPay (F := F) c p from Entails.of_eq (by
        rw [Finset.sdiff_empty, duties_k, show dut (kba : Fin 19).val c = Finset.univ.erase c from rfl]
        exact bigSep_congr fun d _ => (payload_k m c kba d).trans (pay_ba m c d)))
  iexact Hp

/-! ## The first exchange's sends and the local copy -/

/-- Before the first send towards `d`: the row to send, the row to write, the two tokens. -/
def qPre (c d : Dev nD) : sProp 𝕄 := iprop(stP c d.val (G m c) ∗ (∃ f, wP d c.val f) ∗ tok c (kqs d) c ∗ tok d kqr c)
/-- After it: the credit to wait for it. -/
def qPost (c d : Dev nD) : sProp 𝕄 := cred (tallyAt (kcell (c, kqs d)) () N1)
/-- Before the sends to the devices of `S`. -/
def qSt (c : Dev nD) (S : Finset (Dev nD)) : sProp 𝕄 :=
  iprop((∃ W, owes (c : Thread nD τ) (OQ c S) W) ∗ two (Finset.univ.erase c) S (qPre m c) (qPost (F := F) c))
/-- Before the second send towards `d`: the row to send, the row to write, the two tokens. -/
def cPre (c d : Dev nD) : sProp 𝕄 := iprop(ctP c d.val (Cf m c) ∗ (∃ f, cbP d c.val f) ∗ tok c (kcs d) c ∗ tok d kcr c)
/-- After it: the credit to wait for it. -/
def cPost (c d : Dev nD) : sProp 𝕄 := cred (tallyAt (kcell (c, kcs d)) () N2)
/-- Before the second exchange's sends to the devices of `S`. -/
def cSt (c : Dev nD) (S : Finset (Dev nD)) : sProp 𝕄 :=
  iprop((∃ W, owes (c : Thread nD τ) (OC S) W) ∗ two (Finset.univ.erase c) S (cPre m c) (cPost (F := F) c))

/-- Row `d` of the stage is the slice that a transfer names. -/
theorem stP_eq (c d : Dev nD) (f : CT (F := F) cc0_scratch0) (h) :
    stP c d.val f = (((sl4 stM ![d.val, 0, 0, 0] h).view.loc (c : Thread nD τ)) ↦[(sl4 stM ![d.val, 0, 0, 0] h).view.set]{fullShare} f : sProp 𝕄) := by
  rw [set_slS]; rfl
/-- Row `d` of the first landing buffer is the slice that a transfer names. -/
theorem wP_eq (c d : Dev nD) (f : CT (F := F) cc0_scratch1) (h) :
    wP c d.val f = (((sl4 wM ![d.val, 0, 0, 0] h).view.loc (c : Thread nD τ)) ↦[(sl4 wM ![d.val, 0, 0, 0] h).view.set]{fullShare} f : sProp 𝕄) := by
  rw [set_slW]; rfl
/-- Row `d` of the context is the slice that a transfer names. -/
theorem ctP_eq (c d : Dev nD) (f : CT (F := F) cc0_scratch2) (h) :
    ctP c d.val f = (((sl3 ctM ![d.val, 0, 0] h).view.loc (c : Thread nD τ)) ↦[(sl3 ctM ![d.val, 0, 0] h).view.set]{fullShare} f : sProp 𝕄) := by
  rw [set_slC]; rfl
/-- Row `d` of the second landing buffer is the slice that a transfer names. -/
theorem cbP_eq (c d : Dev nD) (f : CT (F := F) cc0_scratch3) (h) :
    cbP c d.val f = (((sl3 cbM ![d.val, 0, 0] h).view.loc (c : Thread nD τ)) ↦[(sl3 cbM ![d.val, 0, 0] h).view.set]{fullShare} f : sProp 𝕄) := by
  rw [set_slB]; rfl

/-- Row `d` of the sender's stage, landed in row `c` of device `d`'s buffer. -/
theorem landed4 (c d : Dev nD) (h h') (f : CT (F := F) cc0_scratch1) :
    (((sl4 wM ![c.val, 0, 0, 0] h').view.loc (d : Thread nD τ)) ↦[(sl4 wM ![c.val, 0, 0, 0] h').view.set]{fullShare}
        ((sl4 wM ![c.val, 0, 0, 0] h').view.write (Elt F) f ((sl4 stM ![d.val, 0, 0, 0] h).view.read (Elt F) (G m c)) Finset.univ) : sProp 𝕄)
      ⊢ wP d c.val (Wf m d) := by
  rw [wP_eq d c _ h']
  refine Entails.of_eq (pointsTo_congr fun i hi => ?_)
  have hi' : i ∈ slot4 c.val := by rw [set_slW] at hi; exact hi
  refine (land4 c d h' h f (G m c) i hi').trans ?_
  have e : (show Fin 8 from i 0) = c := Fin.ext (mem_slot4.mp hi')
  show G m c (row4 d i) = G m (show Fin 8 from i 0) (row4 d i)
  rw [e]
/-- Row `d` of the sender's context, landed in row `c` of device `d`'s second buffer. -/
theorem landed3 (c d : Dev nD) (h h') (f : CT (F := F) cc0_scratch3) :
    (((sl3 cbM ![c.val, 0, 0] h').view.loc (d : Thread nD τ)) ↦[(sl3 cbM ![c.val, 0, 0] h').view.set]{fullShare}
        ((sl3 cbM ![c.val, 0, 0] h').view.write (Elt F) f ((sl3 ctM ![d.val, 0, 0] h).view.read (Elt F) (Cf m c)) Finset.univ) : sProp 𝕄)
      ⊢ cbP d c.val (Bf m d) := by
  rw [cbP_eq d c _ h']
  refine Entails.of_eq (pointsTo_congr fun i hi => ?_)
  have hi' : i ∈ slot3 c.val := by rw [set_slB] at hi; exact hi
  refine (land3 c d h' h f (Cf m c) i hi').trans ?_
  have e : (show Fin 8 from i 0) = c := Fin.ext (mem_slot3.mp hi')
  show Cf m c (row3 d i) = Cf m (show Fin 8 from i 0) (row3 d i)
  rw [e]

/-- A send of the first exchange. -/
theorem step_sendQ (K : Dev nD × Fin 19 → ℕ) (c : Dev nD) {S : Finset (Dev nD)} (d : Dev nD) (hdS : d ∈ S) (hd : d ≠ c)
    {o o' : Fin 4 → ℕ} (ho : o = ![d.val, 0, 0, 0]) (ho' : o' = ![c.val, 0, 0, 0])
    {h : ∀ a, o a + S1x3x64x256.size a ≤ S8x3x64x256.size a} {h' : ∀ a, o' a + S1x3x64x256.size a ≤ S8x3x64x256.size a}
    {x : Dev nD} (hx : x = d) {sS sR : SemLoc sig} (hsS : sS = csem (kqs d)) (hsR : sR = csem kqr)
    {hsc : (sl4 wM o' h').view.ref.isScScratch = false} {hsrc : (sl4 stM o h).view.WordExact} {hdst : (sl4 wM o' h').view.WordExact}
    {hsem : DmaTarget.Typed (nD := nD) (τ := τ) (sig := sig) (p := .tc) .vmem sR (.remote (x : Thread nD τ) (sl4 wM o' h') sS hsc)}
    {α : Type} {k : PUnit → Prog (TpuEff nD τ sig (Elt F) Λ₀ .tc) α} {Q : α → sProp 𝕄} :
    iprop(records m K ∗ qSt m c S)
      ⊢ iprop((qSt m c (S.erase d) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (sl4 stM o h) (.remote (x : Thread nD τ) (sl4 wM o' h') sS hsc) sR hsrc hdst hsem) k) Q) := by
  subst ho; subst ho'; subst hx; subst hsS; subst hsR
  unfold qSt
  iintro ⟨#HR, ⟨%W, HO⟩, Hall⟩ Hk
  ihave H := (two_step (Finset.mem_erase.mpr ⟨hd, Finset.mem_univ _⟩) hdS) $$ Hall
  unfold qPre qPost
  icases H with ⟨⟨Hs, ⟨%f, Hw⟩, Ht1, Ht2⟩, Hback⟩
  ihave Hs := (Entails.of_eq (stP_eq c x (G m c) h)) $$ Hs
  ihave Hw := (Entails.of_eq (wP_eq x c f h')) $$ Hw
  iapply (Rounds.wp_send_pointsTo 𝒱₀ ER (rd m) (c : Thread nD τ) none (c' := (x : Thread nD τ)) (src := sl4 stM ![x.val, 0, 0, 0] h)
      (dst := sl4 wM ![c.val, 0, 0, 0] h') (sS := csem (kqs x)) (sem := csem kqr) (κ₁ := K (c, kqs x)) (κ₂ := K (x, kqr))
      (r₁ := 0) (r₂ := 0) (d₁ := c) (d₂ := c) (fd := f)
      (by have := duties_k m c (kqs x); rw [dut_qs c x, if_neg hd] at this
          exact this ▸ Finset.mem_singleton_self c)
      (by have := duties_k m x kqr; rw [show dut (kqr : Fin 19).val x = Finset.univ.erase x from rfl] at this
          exact this ▸ Finset.mem_erase.mpr ⟨hd.symm, Finset.mem_univ _⟩)
      () () N1 rfl ((amount_k m c (kqs x) c).trans (amt_qs x)) (amount_k m x kqr c)
      (OQ c (S.erase x)) (OQ_erase c hdS) (W := W)
      (by rw [← stP_eq c x _ h]; exact Entails.of_eq ((payload_k m c (kqs x) c).trans (pay_qs m c x c)).symm)
      ((landed4 m c x h h' f).trans (Entails.of_eq ((payload_k m x kqr c).trans (pay_qr m x c)).symm))) $$ [Hs Hw HO Ht1 Ht2]
  · isplitr; · iapply (inv_at m K (c, kqs x)); iexact HR
    isplitr; · iapply (inv_at m K (x, kqr)); iexact HR
    isplitl [Hs]; · iexact Hs
    isplitl [Hw]; · iexact Hw
    isplitl [HO]; · iexact HO
    isplitl [Ht1]; · iexact Ht1
    isplitr; · iapply (reached_at m K (c, kqs x)); iexact HR
    isplitl [Ht2]; · iexact Ht2
    iapply (reached_at m K (x, kqr)); iexact HR
  iintro ⟨Hc, HO⟩
  iapply Hk
  isplitl [HO]; · iexists W; iexact HO
  iapply Hback; iexact Hc

/-- A send of the second exchange. -/
theorem step_sendC (K : Dev nD × Fin 19 → ℕ) (c : Dev nD) {S : Finset (Dev nD)} (d : Dev nD) (hdS : d ∈ S) (hd : d ≠ c)
    {o o' : Fin 3 → ℕ} (ho : o = ![d.val, 0, 0]) (ho' : o' = ![c.val, 0, 0])
    {h : ∀ a, o a + S1x64x256.size a ≤ S8x64x256.size a} {h' : ∀ a, o' a + S1x64x256.size a ≤ S8x64x256.size a}
    {x : Dev nD} (hx : x = d) {sS sR : SemLoc sig} (hsS : sS = csem (kcs d)) (hsR : sR = csem kcr)
    {hsc : (sl3 cbM o' h').view.ref.isScScratch = false} {hsrc : (sl3 ctM o h).view.WordExact} {hdst : (sl3 cbM o' h').view.WordExact}
    {hsem : DmaTarget.Typed (nD := nD) (τ := τ) (sig := sig) (p := .tc) .vmem sR (.remote (x : Thread nD τ) (sl3 cbM o' h') sS hsc)}
    {α : Type} {k : PUnit → Prog (TpuEff nD τ sig (Elt F) Λ₀ .tc) α} {Q : α → sProp 𝕄} :
    iprop(records m K ∗ cSt m c S)
      ⊢ iprop((cSt m c (S.erase d) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (sl3 ctM o h) (.remote (x : Thread nD τ) (sl3 cbM o' h') sS hsc) sR hsrc hdst hsem) k) Q) := by
  subst ho; subst ho'; subst hx; subst hsS; subst hsR
  unfold cSt
  iintro ⟨#HR, ⟨%W, HO⟩, Hall⟩ Hk
  ihave H := (two_step (Finset.mem_erase.mpr ⟨hd, Finset.mem_univ _⟩) hdS) $$ Hall
  unfold cPre cPost
  icases H with ⟨⟨Hs, ⟨%f, Hw⟩, Ht1, Ht2⟩, Hback⟩
  ihave Hs := (Entails.of_eq (ctP_eq c x (Cf m c) h)) $$ Hs
  ihave Hw := (Entails.of_eq (cbP_eq x c f h')) $$ Hw
  iapply (Rounds.wp_send_pointsTo 𝒱₀ ER (rd m) (c : Thread nD τ) none (c' := (x : Thread nD τ)) (src := sl3 ctM ![x.val, 0, 0] h)
      (dst := sl3 cbM ![c.val, 0, 0] h') (sS := csem (kcs x)) (sem := csem kcr) (κ₁ := K (c, kcs x)) (κ₂ := K (x, kcr))
      (r₁ := 0) (r₂ := 0) (d₁ := c) (d₂ := c) (fd := f)
      (by have := duties_k m c (kcs x); rw [dut_cs c x, if_neg hd] at this
          exact this ▸ Finset.mem_singleton_self c)
      (by have := duties_k m x kcr; rw [show dut (kcr : Fin 19).val x = Finset.univ.erase x from rfl] at this
          exact this ▸ Finset.mem_erase.mpr ⟨hd.symm, Finset.mem_univ _⟩)
      () () N2 rfl ((amount_k m c (kcs x) c).trans (amt_cs x)) (amount_k m x kcr c)
      (OC (S.erase x)) (OC_erase hdS) (W := W)
      (by rw [← ctP_eq c x _ h]; exact Entails.of_eq ((payload_k m c (kcs x) c).trans (pay_cs m c x c)).symm)
      ((landed3 m c x h h' f).trans (Entails.of_eq ((payload_k m x kcr c).trans (pay_cr m x c)).symm))) $$ [Hs Hw HO Ht1 Ht2]
  · isplitr; · iapply (inv_at m K (c, kcs x)); iexact HR
    isplitr; · iapply (inv_at m K (x, kcr)); iexact HR
    isplitl [Hs]; · iexact Hs
    isplitl [Hw]; · iexact Hw
    isplitl [HO]; · iexact HO
    isplitl [Ht1]; · iexact Ht1
    isplitr; · iapply (reached_at m K (c, kcs x)); iexact HR
    isplitl [Ht2]; · iexact Ht2
    iapply (reached_at m K (x, kcr)); iexact HR
  iintro ⟨Hc, HO⟩
  iapply Hk
  isplitl [HO]; · iexists W; iexact HO
  iapply Hback; iexact Hc

/-! ## The local copies -/

/-- The device's own row of the first landing buffer, to be copied while `c` is still in `S`. -/
def qOwn (c : Dev nD) (S : Finset (Dev nD)) : sProp 𝕄 :=
  iprop(stP c c.val (G m c) ∗ if c ∈ S then iprop(∃ f, wP c c.val f) else wP c c.val (Wf m c))
/-- The device's own row of the second landing buffer, to be copied while `c` is still in `S`. -/
def cOwn (c : Dev nD) (S : Finset (Dev nD)) : sProp 𝕄 :=
  iprop(ctP c c.val (Cf m c) ∗ if c ∈ S then iprop(∃ f, cbP c c.val f) else cbP c c.val (Bf m c))

/-- A load of row `d` of the stage reads that row only. -/
theorem subS (d : ℕ) (h) : stM.view.setOn (Rect.unit (s := S8x3x64x256) ![d, 0, 0, 0] S1x3x64x256.size h).toLoadRect.set ⊆ slot4 d := fun i hi => by
  obtain ⟨y, hy, rfl⟩ := Finset.mem_map.mp hi
  exact (set_rect4 d h).le hy
/-- An access to row `d` of the first landing buffer touches that row only. -/
theorem subW (d : ℕ) (h) : wM.view.setOn (Rect.unit (s := S8x3x64x256) ![d, 0, 0, 0] S1x3x64x256.size h).toLoadRect.set ⊆ slot4 d := fun i hi => by
  obtain ⟨y, hy, rfl⟩ := Finset.mem_map.mp hi
  exact (set_rect4 d h).le hy
/-- A load of row `d` of the context reads that row only. -/
theorem subC (d : ℕ) (h) : ctM.view.setOn (Rect.unit (s := S8x64x256) ![d, 0, 0] S1x64x256.size h).toLoadRect.set ⊆ slot3 d := fun i hi => by
  obtain ⟨y, hy, rfl⟩ := Finset.mem_map.mp hi
  exact (set_rect3 d h).le hy
/-- An access to row `d` of the second landing buffer touches that row only. -/
theorem subB (d : ℕ) (h) : cbM.view.setOn (Rect.unit (s := S8x64x256) ![d, 0, 0] S1x64x256.size h).toLoadRect.set ⊆ slot3 d := fun i hi => by
  obtain ⟨y, hy, rfl⟩ := Finset.mem_map.mp hi
  exact (set_rect3 d h).le hy

/-- A row stored back where it was read, in the other buffer: the same elements. -/
theorem copied4 (c : Dev nD) (h) (f : CT (F := F) cc0_scratch1) (fs : CT (F := F) cc0_scratch0) (i : S8x3x64x256.Idx) (hi : i ∈ slot4 c.val) :
    (wM.access (Rect.unit (s := S8x3x64x256) ![c.val, 0, 0, 0] S1x3x64x256.size h)).write (Elt F) f
      (stM.view.readAt (Elt F) (Rect.unit (s := S8x3x64x256) ![c.val, 0, 0, 0] S1x3x64x256.size h).toLoadRect fs) Finset.univ i = fs i := by
  have hi' : i ∈ (Rect.unit (s := S8x3x64x256) ![c.val, 0, 0, 0] S1x3x64x256.size h).set := by rw [set_rect4]; exact hi
  have hi'' : i ∈ (wM.access (Rect.unit (s := S8x3x64x256) ![c.val, 0, 0, 0] S1x3x64x256.size h)).set := by
    rw [show (wM.access (Rect.unit (s := S8x3x64x256) ![c.val, 0, 0, 0] S1x3x64x256.size h)).set = (Rect.unit (s := S8x3x64x256) ![c.val, 0, 0, 0] S1x3x64x256.size h).set
      from View.set_slice_whole cc0_scratch1 _]
    exact hi'
  obtain ⟨y, -, rfl⟩ := Finset.mem_map.mp hi''
  rw [View.write_emb_of_mem _ _ (Finset.mem_univ y)]
  rfl
/-- The same in the buffers of the second exchange. -/
theorem copied3 (c : Dev nD) (h) (f : CT (F := F) cc0_scratch3) (fs : CT (F := F) cc0_scratch2) (i : S8x64x256.Idx) (hi : i ∈ slot3 c.val) :
    (cbM.access (Rect.unit (s := S8x64x256) ![c.val, 0, 0] S1x64x256.size h)).write (Elt F) f
      (ctM.view.readAt (Elt F) (Rect.unit (s := S8x64x256) ![c.val, 0, 0] S1x64x256.size h).toLoadRect fs) Finset.univ i = fs i := by
  have hi' : i ∈ (Rect.unit (s := S8x64x256) ![c.val, 0, 0] S1x64x256.size h).set := by rw [set_rect3]; exact hi
  have hi'' : i ∈ (cbM.access (Rect.unit (s := S8x64x256) ![c.val, 0, 0] S1x64x256.size h)).set := by
    rw [show (cbM.access (Rect.unit (s := S8x64x256) ![c.val, 0, 0] S1x64x256.size h)).set = (Rect.unit (s := S8x64x256) ![c.val, 0, 0] S1x64x256.size h).set
      from View.set_slice_whole cc0_scratch3 _]
    exact hi'
  obtain ⟨y, -, rfl⟩ := Finset.mem_map.mp hi''
  rw [View.write_emb_of_mem _ _ (Finset.mem_univ y)]
  rfl

/-- The local copy of the first exchange. -/
theorem step_copyQ (c : Dev nD) {S : Finset (Dev nD)} (hcS : c ∈ S) {o : Fin 4 → ℕ} (ho : o = ![c.val, 0, 0, 0])
    {h h' h'' : ∀ a, o a + S1x3x64x256.size a ≤ S8x3x64x256.size a} {P : Vec F S1x3x64x256 .bf16 → FVec F S1x3x64x256 .bf16} (hP : P = fun v => v)
    {hl hl' hx hm} {α : Type} {k : PUnit → Prog (TpuEff nD τ sig (Elt F) Λ₀ .tc) α} {Q : α → sProp 𝕄} :
    qOwn m c S
      ⊢ iprop((qOwn m c (S.erase c) -∗ wp frame (wpE (defs₀ (F := F)) 𝒱₀ (c : Thread nD τ) none) Set.univ (k ⟨⟩) Q)
        -∗ wp frame (wpE (defs₀ (F := F)) 𝒱₀ (c : Thread nD τ) none) Set.univ
          (.op (.load stM (Rect.unit (s := S8x3x64x256) o S1x3x64x256.size h).toLoadRect hl) fun v =>
            .op (.load wM (Rect.unit (s := S8x3x64x256) o S1x3x64x256.size h').toLoadRect hl') fun _ =>
            .op (.store wM (Rect.unit (s := S8x3x64x256) o S1x3x64x256.size h'') (P v) Finset.univ hx hm) k) Q) := by
  subst ho; subst hP
  unfold qOwn
  rw [if_pos hcS, if_neg (Finset.notMem_erase c S)]
  unfold stP wP
  iintro ⟨Hs, %f, Hw⟩ Hk
  iapply (wp_load 𝒱₀ (c : Thread nD τ) none Set.univ (m := stM) (S := slot4 c.val) (subS c.val h)) $$ Hs
  iintro Hs
  iapply (wp_load 𝒱₀ (c : Thread nD τ) none Set.univ (m := wM) (S := slot4 c.val) (subW c.val h)) $$ Hw
  iintro Hw
  iapply (wp_store 𝒱₀ (c : Thread nD τ) none Set.univ (m := wM) (r := Rect.unit (s := S8x3x64x256) ![c.val, 0, 0, 0] S1x3x64x256.size h)
    (Mk := Finset.univ) (S := slot4 c.val) (by
      rw [View.setOn_univ, show (wM.access (Rect.unit (s := S8x3x64x256) ![c.val, 0, 0, 0] S1x3x64x256.size h)).set = (Rect.unit (s := S8x3x64x256) ![c.val, 0, 0, 0] S1x3x64x256.size h).set
        from View.set_slice_whole cc0_scratch1 _]
      exact (set_rect4 c.val h).le)) $$ Hw
  iintro Hw
  iapply Hk
  isplitl [Hs]; · iexact Hs
  iapply (Entails.of_eq (pointsTo_congr (ℓ := lw c) (I := slot4 c.val) (q := fullShare) (f := ((wM.access (Rect.unit (s := S8x3x64x256) ![c.val, 0, 0, 0] S1x3x64x256.size h)).write (Elt F) f
      (stM.view.readAt (Elt F) (Rect.unit (s := S8x3x64x256) ![c.val, 0, 0, 0] S1x3x64x256.size h).toLoadRect (G m c)) Finset.univ))
    (g := Wf m c) fun i hi => by
      refine (copied4 c h f (G m c) i hi).trans ?_
      have e : (show Fin 8 from i 0) = c := Fin.ext (mem_slot4.mp hi)
      show G m c i = G m (show Fin 8 from i 0) (Function.update i 0 (show Fin 8 from c))
      rw [e, ← e, Function.update_eq_self]))
  iexact Hw

/-- The local copy of the second exchange. -/
theorem step_copyC (c : Dev nD) {S : Finset (Dev nD)} (hcS : c ∈ S) {o : Fin 3 → ℕ} (ho : o = ![c.val, 0, 0])
    {h h' h'' : ∀ a, o a + S1x64x256.size a ≤ S8x64x256.size a} {P : Vec F S1x64x256 .bf16 → FVec F S1x64x256 .bf16} (hP : P = fun v => v)
    {hl hl' hx hm} {α : Type} {k : PUnit → Prog (TpuEff nD τ sig (Elt F) Λ₀ .tc) α} {Q : α → sProp 𝕄} :
    cOwn m c S
      ⊢ iprop((cOwn m c (S.erase c) -∗ wp frame (wpE (defs₀ (F := F)) 𝒱₀ (c : Thread nD τ) none) Set.univ (k ⟨⟩) Q)
        -∗ wp frame (wpE (defs₀ (F := F)) 𝒱₀ (c : Thread nD τ) none) Set.univ
          (.op (.load ctM (Rect.unit (s := S8x64x256) o S1x64x256.size h).toLoadRect hl) fun v =>
            .op (.load cbM (Rect.unit (s := S8x64x256) o S1x64x256.size h').toLoadRect hl') fun _ =>
            .op (.store cbM (Rect.unit (s := S8x64x256) o S1x64x256.size h'') (P v) Finset.univ hx hm) k) Q) := by
  subst ho; subst hP
  unfold cOwn
  rw [if_pos hcS, if_neg (Finset.notMem_erase c S)]
  unfold ctP cbP
  iintro ⟨Hs, %f, Hw⟩ Hk
  iapply (wp_load 𝒱₀ (c : Thread nD τ) none Set.univ (m := ctM) (S := slot3 c.val) (subC c.val h)) $$ Hs
  iintro Hs
  iapply (wp_load 𝒱₀ (c : Thread nD τ) none Set.univ (m := cbM) (S := slot3 c.val) (subB c.val h)) $$ Hw
  iintro Hw
  iapply (wp_store 𝒱₀ (c : Thread nD τ) none Set.univ (m := cbM) (r := Rect.unit (s := S8x64x256) ![c.val, 0, 0] S1x64x256.size h)
    (Mk := Finset.univ) (S := slot3 c.val) (by
      rw [View.setOn_univ, show (cbM.access (Rect.unit (s := S8x64x256) ![c.val, 0, 0] S1x64x256.size h)).set = (Rect.unit (s := S8x64x256) ![c.val, 0, 0] S1x64x256.size h).set
        from View.set_slice_whole cc0_scratch3 _]
      exact (set_rect3 c.val h).le)) $$ Hw
  iintro Hw
  iapply Hk
  isplitl [Hs]; · iexact Hs
  iapply (Entails.of_eq (pointsTo_congr (ℓ := lcb c) (I := slot3 c.val) (q := fullShare) (f := ((cbM.access (Rect.unit (s := S8x64x256) ![c.val, 0, 0] S1x64x256.size h)).write (Elt F) f
      (ctM.view.readAt (Elt F) (Rect.unit (s := S8x64x256) ![c.val, 0, 0] S1x64x256.size h).toLoadRect (Cf m c)) Finset.univ))
    (g := Bf m c) fun i hi => by
      refine (copied3 c h f (Cf m c) i hi).trans ?_
      have e : (show Fin 8 from i 0) = c := Fin.ext (mem_slot3.mp hi)
      show Cf m c i = Cf m (show Fin 8 from i 0) (Function.update i 0 (show Fin 8 from c))
      rw [e, ← e, Function.update_eq_self]))
  iexact Hw

end Cert.KernelIdealProof

end
-- ==== Proof.Waits.lean ====
/-
The waits of the two exchanges: for the rows arriving, one at a time and the last one closing the round, and for the
device's own sends to have left. Then each step guarded by the kernel's test of which device it runs on.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Arrivals -/

/-- After `j` of the seven waits at device `c`'s arrival cell `kk`, each for one row's credit `N`. -/
def rcvSt (c : Dev nD) (kk : Fin 19) (N : ℕ) (O : CellTallies nD τ sig Unit) (j : ℕ) : sProp 𝕄 :=
  iprop(∃ S, ⌜S ⊆ Finset.univ.erase c⌝ ∗ atPos ER (kcell (c, kk)) 0 S (j * N) ∗ (bigSep S fun p => pay m kk.val c p)
    ∗ cred (tallyAt (kcell (c, kk)) () ((7 - j) * N)) ∗ ∃ W, owes (c : Thread nD τ) O W)

/-- One of the first six waits for an arrival: one more row's credit is taken. -/
theorem step_arrive (K : Dev nD × Fin 19 → ℕ) (c : Dev nD) (kk : Fin 19) (N : ℕ) (hdut : dut kk.val c = Finset.univ.erase c) (hamt : amt kk.val = N)
    (O : CellTallies nD τ sig Unit) (hO : (levAts L lv : sProp 𝕄) ⊢ MayWait (c : Thread nD τ) (csem kk) () O) (j : ℕ) (hj : j < 6)
    {sp sp' : Space} {s s' : Shape} {e e' : EltTy} {sem : DmaSem sig} (hsem : SemLoc.dma sem = csem kk)
    {src : Memref sig .tc sp' s' e'} {dst : Memref sig .tc sp s e} (hN : dst.view.dmaCredit = N) {hsrc : src.view.WordExact} {hdst : dst.view.WordExact}
    {α : Type} {k : PUnit → Prog (TpuEff nD τ sig (Elt F) Λ₀ .tc) α} {Q : α → sProp 𝕄} :
    iprop((records m K ∗ levAts L lv) ∗ rcvSt m c kk N O j)
      ⊢ iprop((rcvSt m c kk N O (j + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  unfold rcvSt
  have hcr : (7 - j) * N = N + (7 - (j + 1)) * N := by
    rw [show 7 - j = 1 + (7 - (j + 1)) by omega, add_mul, one_mul]
  rw [hcr, ← tallyAt_add]
  iintro ⟨⟨#HR, #Hlev⟩, %S, %hS, Hat, Hp, Hc, %W, HO⟩ Hk
  ihave Hc := (cred_add _ _).1 $$ Hc
  icases Hc with ⟨Hc, Hc'⟩
  iapply (Rounds.wp_wait 𝒱₀ ER (rd m) (c : Thread nD τ) none (κ := K (c, kk)) (sm := csem kk) (k' := dst.view.dmaCredit)
      (by rw [← hsem]; exact wpE_waitDma2_eq 𝒱₀ (c : Thread nD τ) none Set.univ) (Set.mem_univ _) (cr := Finsupp.single () N) (O := O) (W := W)
      {(csem kk, ())} (R := 0) (m := j * N) (T := S) (by rw [hN]; exact Util.total_single _ _)
      (image_single_subset (csem kk) () N)) $$ [Hc HO Hat]
  · isplitr; · iapply (inv_at m K (c, kk)); iexact HR
    isplitl [Hc]; · iexact Hc
    isplitl [HO]; · iexact HO
    isplitr; · iapply hO; iexact Hlev
    iexact Hat
  iintro %S' ⟨%hS', HO, Hat, Hp'⟩
  obtain ⟨h1, h2, -⟩ := hS'
  iapply Hk
  iexists S'
  isplitr
  · ipureintro
    rw [show (rd m).duties ((c : Thread nD τ), csem kk) 0 = Finset.univ.erase c from (duties_k m c kk).trans hdut] at h2
    exact h2
  isplitl [Hat]
  · rw [show (j + 1) * N = j * N + dst.view.dmaCredit by rw [hN, add_mul, one_mul]]; iexact Hat
  isplitl [Hp Hp']
  · iapply (Entails.of_eq (show iprop((bigSep S fun p => pay m kk.val c p) ∗ bigSep (S' \ S) fun p => pay m kk.val c p) = bigSep S' fun p => pay m kk.val c p
      from (BI.bigSep_sdiff_split h1 (Φ := fun p => pay m kk.val c p)).symm))
    isplitl [Hp]; · iexact Hp
    iapply (Entails.of_eq (bigSep_congr (s := S' \ S) (Φ := fun p => (rd m).payload (kcell (c, kk)) 0 p) (Ψ := fun p => pay m kk.val c p)
      fun p _ => payload_k m c kk p))
    iexact Hp'
  isplitl [Hc']; · iexact Hc'
  iexists _; iexact HO

/-- The last wait: every row is in. -/
theorem step_arrived (K : Dev nD × Fin 19 → ℕ) (c : Dev nD) (kk : Fin 19) (N : ℕ) (hdut : dut kk.val c = Finset.univ.erase c) (hamt : amt kk.val = N)
    (O : CellTallies nD τ sig Unit) (hO : (levAts L lv : sProp 𝕄) ⊢ MayWait (c : Thread nD τ) (csem kk) () O)
    {sp sp' : Space} {s s' : Shape} {e e' : EltTy} {sem : DmaSem sig} (hsem : SemLoc.dma sem = csem kk)
    {src : Memref sig .tc sp' s' e'} {dst : Memref sig .tc sp s e} (hN : dst.view.dmaCredit = N) {hsrc : src.view.WordExact} {hdst : dst.view.WordExact}
    {α : Type} {k : PUnit → Prog (TpuEff nD τ sig (Elt F) Λ₀ .tc) α} {Q : α → sProp 𝕄} :
    iprop((records m K ∗ levAts L lv) ∗ rcvSt m c kk N O 6)
      ⊢ iprop((((bigSep (Finset.univ.erase c) fun p => pay m kk.val c p) ∗ atPos ER (kcell (c, kk)) 1 ∅ 0 ∗ ∃ W, owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  unfold rcvSt
  rw [show (7 - 6) * N = dst.view.dmaCredit by rw [hN]; exact one_mul N]
  iintro ⟨⟨#HR, #Hlev⟩, %S, %hS, Hat, Hp, Hc, %W, HO⟩ Hk
  iapply (Rounds.wp_wait_rest_token 𝒱₀ ER (rd m) (c : Thread nD τ) none (κ := K (c, kk)) (sm := csem kk) (k' := dst.view.dmaCredit)
      (by rw [← hsem]; exact wpE_waitDma2_eq 𝒱₀ (c : Thread nD τ) none Set.univ) (Set.mem_univ _) () (O := O) (W := W) (R := 0) (m := 6 * N) (T := S)
      (by
        have := expect_k m c kk
        rw [hdut, card_peers, hamt] at this
        rw [hN]
        exact (show 6 * N + N = 7 * N by omega).trans this.symm)) $$ [Hc HO Hat]
  · isplitr; · iapply (inv_at m K (c, kk)); iexact HR
    isplitl [Hc]; · iexact Hc
    isplitl [HO]; · iexact HO
    isplitr; · iapply hO; iexact Hlev
    iexact Hat
  iintro ⟨HO, Hat, -, Hp'⟩
  iapply Hk
  isplitl [Hp Hp']
  · iapply (Entails.of_eq (show iprop((bigSep S fun p => pay m kk.val c p) ∗ bigSep (Finset.univ.erase c \ S) fun p => pay m kk.val c p) = bigSep (Finset.univ.erase c) fun p => pay m kk.val c p
      from (BI.bigSep_sdiff_split hS (Φ := fun p => pay m kk.val c p)).symm))
    isplitl [Hp]; · iexact Hp
    iapply (show (bigSep ((rd m).duties (kcell (c, kk)) 0 \ S) fun p => (rd m).payload (kcell (c, kk)) 0 p)
      ⊢ bigSep (Finset.univ.erase c \ S) fun p => pay m kk.val c p from Entails.of_eq (by
        rw [duties_k, hdut]
        exact bigSep_congr fun p _ => payload_k m c kk p))
    iexact Hp'
  isplitl [Hat]; · iexact Hat
  iexists _; iexact HO

/-! ## The sends have left -/

/-- A wait for one of the device's own sends: its source row back, its cell past its one round. -/
theorem step_left (K : Dev nD × Fin 19 → ℕ) (c : Dev nD) (kk : Fin 19) (N : ℕ) (hdut : dut kk.val c = {c}) (hamt : amt kk.val = N)
    {sp sp' : Space} {s s' : Shape} {e e' : EltTy} {sem : DmaSem sig} (hsem : SemLoc.dma sem = csem kk)
    {src : Memref sig .tc sp' s' e'} {dst : Memref sig .tc sp s e} (hN : dst.view.dmaCredit = N) {hsrc : src.view.WordExact} {hdst : dst.view.WordExact}
    {α : Type} {k : PUnit → Prog (TpuEff nD τ sig (Elt F) Λ₀ .tc) α} {Q : α → sProp 𝕄} :
    iprop(records m K ∗ cred (tallyAt (kcell (c, kk)) () N) ∗ atPos ER (kcell (c, kk)) 0 ∅ 0 ∗ ∃ W, owes (c : Thread nD τ) 0 W)
      ⊢ iprop((((pay m kk.val c c) ∗ atPos ER (kcell (c, kk)) 1 ∅ 0 ∗ ∃ W, owes (c : Thread nD τ) 0 W)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hN
  iintro ⟨#HR, Hc, Hat, %W, HO⟩ Hk
  iapply (Rounds.wp_wait_rest_token 𝒱₀ ER (rd m) (c : Thread nD τ) none (κ := K (c, kk)) (sm := csem kk) (k' := dst.view.dmaCredit)
      (by rw [← hsem]; exact wpE_waitDma2_eq 𝒱₀ (c : Thread nD τ) none Set.univ) (Set.mem_univ _) () (O := 0) (W := W) (R := 0) (m := 0) (T := ∅)
      (by
        have := expect_k m c kk
        rw [hdut, Finset.card_singleton, one_mul, hamt] at this
        exact (Nat.zero_add _).trans this.symm)) $$ [Hc HO Hat]
  · isplitr; · iapply (inv_at m K (c, kk)); iexact HR
    isplitl [Hc]; · iexact Hc
    isplitl [HO]; · iexact HO
    isplitr; · rw [MayWait_zero]; iempintro
    iexact Hat
  iintro ⟨HO, Hat, -, Hp⟩
  iapply Hk
  isplitl [Hp]
  · iapply (show (bigSep ((rd m).duties (kcell (c, kk)) 0 \ ∅) fun p => (rd m).payload (kcell (c, kk)) 0 p)
      ⊢ pay m kk.val c c from Entails.of_eq (by
        rw [Finset.sdiff_empty, duties_k, hdut, BI.bigSep_singleton]
        exact payload_k m c kk c))
    iexact Hp
  isplitl [Hat]; · iexact Hat
  iexists _; iexact HO

/-- The send cells towards `d`, in flight and after their waits. -/
def fPre (c d : Dev nD) : sProp 𝕄 :=
  iprop(qPost (F := F) c d ∗ cPost (F := F) c d ∗ atPos ER (kcell (c, kqs d)) 0 ∅ 0 ∗ atPos ER (kcell (c, kcs d)) 0 ∅ 0)
/-- The send cells towards `d` after their waits: the rows are back. -/
def fPost (c d : Dev nD) : sProp 𝕄 :=
  iprop(stP c d.val (G m c) ∗ ctP c d.val (Cf m c) ∗ atPos ER (kcell (c, kqs d)) 1 ∅ 0 ∗ atPos ER (kcell (c, kcs d)) 1 ∅ 0)
/-- Before the final waits for the sends towards the devices of `S`. -/
def fSt (c : Dev nD) (S : Finset (Dev nD)) : sProp 𝕄 :=
  iprop((∃ W, owes (c : Thread nD τ) 0 W) ∗ two (Finset.univ.erase c) S (fPre (F := F) c) (fPost m c))

/-- The two waits for the sends towards `d`. -/
theorem step_sent (K : Dev nD × Fin 19 → ℕ) (c d : Dev nD) {S : Finset (Dev nD)} (hdS : d ∈ S) (hd : d ≠ c)
    {sp₁ sp₁' sp₂ sp₂' : Space} {s₁ s₁' s₂ s₂' : Shape} {e₁ e₁' e₂ e₂' : EltTy} {sem₁ sem₂ : DmaSem sig}
    (hsem₁ : SemLoc.dma sem₁ = csem (kqs d)) (hsem₂ : SemLoc.dma sem₂ = csem (kcs d))
    {src₁ : Memref sig .tc sp₁' s₁' e₁'} {dst₁ : Memref sig .tc sp₁ s₁ e₁} (hN₁ : dst₁.view.dmaCredit = N1) {hsrc₁ : src₁.view.WordExact} {hdst₁ : dst₁.view.WordExact}
    {src₂ : Memref sig .tc sp₂' s₂' e₂'} {dst₂ : Memref sig .tc sp₂ s₂ e₂} (hN₂ : dst₂.view.dmaCredit = N2) {hsrc₂ : src₂.view.WordExact} {hdst₂ : dst₂.view.WordExact}
    {α : Type} {k : PUnit → Prog (TpuEff nD τ sig (Elt F) Λ₀ .tc) α} {Q : α → sProp 𝕄} :
    iprop(records m K ∗ fSt m c S)
      ⊢ iprop((fSt m c (S.erase d) -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 sem₁ src₁ dst₁ hsrc₁ hdst₁) fun _ => .op (.waitDma2 sem₂ src₂ dst₂ hsrc₂ hdst₂) k) Q) := by
  unfold fSt
  iintro ⟨#HR, HO, Hall⟩ Hk
  ihave H := (two_step (Finset.mem_erase.mpr ⟨hd, Finset.mem_univ _⟩) hdS) $$ Hall
  unfold fPre fPost qPost cPost
  icases H with ⟨⟨Hc1, Hc2, Ha1, Ha2⟩, Hback⟩
  iapply (step_left m K c (kqs d) N1 ((dut_qs c d).trans (if_neg hd)) (amt_qs d) hsem₁ hN₁) $$ [Hc1 Ha1 HO]
  · isplitr; · iexact HR
    isplitl [Hc1]; · iexact Hc1
    isplitl [Ha1]; · iexact Ha1
    iexact HO
  iintro ⟨Hp1, Ha1, HO⟩
  iapply (step_left m K c (kcs d) N2 ((dut_cs c d).trans (if_neg hd)) (amt_cs d) hsem₂ hN₂) $$ [Hc2 Ha2 HO]
  · isplitr; · iexact HR
    isplitl [Hc2]; · iexact Hc2
    isplitl [Ha2]; · iexact Ha2
    iexact HO
  iintro ⟨Hp2, Ha2, HO⟩
  iapply Hk
  isplitl [HO]; · iexact HO
  iapply Hback
  isplitl [Hp1]; · iapply (Entails.of_eq (pay_qs m c d c)); iexact Hp1
  isplitl [Hp2]; · iapply (Entails.of_eq (pay_cs m c d c)); iexact Hp2
  isplitl [Ha1]; · iexact Ha1
  iexact Ha2

/-! ## Guarded steps -/

/-- Serving a peer does not touch the device's own membership. -/
theorem own_erase (c d : Dev nD) (h : d ≠ c) (S : Finset (Dev nD)) : c ∈ S.erase d ↔ c ∈ S := by
  rw [Finset.mem_erase]; exact ⟨fun H => H.2, fun H => ⟨h.symm, H⟩⟩
/-- Serving a peer leaves the device's own row of the first landing buffer as it was. -/
theorem qOwn_erase (c d : Dev nD) (h : d ≠ c) (S : Finset (Dev nD)) : qOwn m c (S.erase d) = qOwn m c S := by
  unfold qOwn; simp only [own_erase c d h S]
/-- Serving a peer leaves the device's own row of the second landing buffer as it was. -/
theorem cOwn_erase (c d : Dev nD) (h : d ≠ c) (S : Finset (Dev nD)) : cOwn m c (S.erase d) = cOwn m c S := by
  unfold cOwn; simp only [own_erase c d h S]

/-- A step taken only where `P` holds: elsewhere it would change nothing. -/
theorem step_guard {A A' : sProp 𝕄} (c : Dev nD) {P : Prop} [Decidable P] {B : P → Prog (TpuEff nD τ sig (Elt F) Λ₀ .tc) PUnit}
    (hB : ∀ h : P, A ⊢ wp frame (wpE (defs₀ (F := F)) 𝒱₀ (c : Thread nD τ) none) Set.univ (B h) (fun _ => A'))
    (hno : ¬P → A = A') {α : Type} {k : PUnit → Prog (TpuEff nD τ sig (Elt F) Λ₀ .tc) α} {Q : α → sProp 𝕄} :
    A ⊢ iprop((A' -∗ wp frame (wpE (defs₀ (F := F)) 𝒱₀ (c : Thread nD τ) none) Set.univ (k ⟨⟩) Q)
      -∗ wp frame (wpE (defs₀ (F := F)) 𝒱₀ (c : Thread nD τ) none) Set.univ ((if h : P then B h else .ret ⟨⟩) >>= k) Q) := by
  rw [wp_bind]
  by_cases h : P
  · rw [dif_pos h]
    iintro HA Hk
    iapply (wp_wand frame _ _ (Q := fun _ => A')) $$ [HA]
    · iapply (hB h); iexact HA
    iintro %u HA
    iapply Hk; iexact HA
  · rw [dif_neg h, ← hno h]
    iintro HA Hk
    rw [wp_ret]; imodintro
    iapply Hk; iexact HA

end Cert.KernelIdealProof

end
-- ==== Proof.Body1.lean ====
/-
The kernel's first half on one device: the seven signals, the 24 stores of its stage, the barrier wait.
-/
module

public import proofs.«01_k».proof.Proof.Waits

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The signals, and the first stores -/

/-- The devices still to be signalled at the start, and after each signal. -/
abbrev sg0 (c : Dev nD) : Finset (Dev nD) := Finset.univ.erase c
/-- The devices left after signal 1. -/
abbrev sg1 (c : Dev nD) : Finset (Dev nD) := (sg0 c).erase ⟨k0_dev1 c, k0_dev1_lt c⟩
/-- The devices left after signal 2. -/
abbrev sg2 (c : Dev nD) : Finset (Dev nD) := (sg1 c).erase ⟨k0_dev2 c, k0_dev2_lt c⟩
/-- The devices left after signal 3. -/
abbrev sg3 (c : Dev nD) : Finset (Dev nD) := (sg2 c).erase ⟨k0_dev3 c, k0_dev3_lt c⟩
/-- The devices left after signal 4. -/
abbrev sg4 (c : Dev nD) : Finset (Dev nD) := (sg3 c).erase ⟨k0_dev4 c, k0_dev4_lt c⟩
/-- The devices left after signal 5. -/
abbrev sg5 (c : Dev nD) : Finset (Dev nD) := (sg4 c).erase ⟨k0_dev5 c, k0_dev5_lt c⟩
/-- The devices left after signal 6. -/
abbrev sg6 (c : Dev nD) : Finset (Dev nD) := (sg5 c).erase ⟨k0_dev6 c, k0_dev6_lt c⟩
/-- The devices left after signal 7. -/
abbrev sg7 (c : Dev nD) : Finset (Dev nD) := (sg6 c).erase ⟨k0_dev7 c, k0_dev7_lt c⟩

/-- The next device signalled is still to be signalled, and is another device. -/
theorem sgOk1 (c : Dev nD) : ⟨k0_dev1 c, k0_dev1_lt c⟩ ∈ sg0 c ∧ (⟨k0_dev1 c, k0_dev1_lt c⟩ : Dev nD) ≠ c := by revert c; decide +kernel
/-- The next device signalled is still to be signalled, and is another device. -/
theorem sgOk2 (c : Dev nD) : ⟨k0_dev2 c, k0_dev2_lt c⟩ ∈ sg1 c ∧ (⟨k0_dev2 c, k0_dev2_lt c⟩ : Dev nD) ≠ c := by revert c; decide +kernel
/-- The next device signalled is still to be signalled, and is another device. -/
theorem sgOk3 (c : Dev nD) : ⟨k0_dev3 c, k0_dev3_lt c⟩ ∈ sg2 c ∧ (⟨k0_dev3 c, k0_dev3_lt c⟩ : Dev nD) ≠ c := by revert c; decide +kernel
/-- The next device signalled is still to be signalled, and is another device. -/
theorem sgOk4 (c : Dev nD) : ⟨k0_dev4 c, k0_dev4_lt c⟩ ∈ sg3 c ∧ (⟨k0_dev4 c, k0_dev4_lt c⟩ : Dev nD) ≠ c := by revert c; decide +kernel
/-- The next device signalled is still to be signalled, and is another device. -/
theorem sgOk5 (c : Dev nD) : ⟨k0_dev5 c, k0_dev5_lt c⟩ ∈ sg4 c ∧ (⟨k0_dev5 c, k0_dev5_lt c⟩ : Dev nD) ≠ c := by revert c; decide +kernel
/-- The next device signalled is still to be signalled, and is another device. -/
theorem sgOk6 (c : Dev nD) : ⟨k0_dev6 c, k0_dev6_lt c⟩ ∈ sg5 c ∧ (⟨k0_dev6 c, k0_dev6_lt c⟩ : Dev nD) ≠ c := by revert c; decide +kernel
/-- The next device signalled is still to be signalled, and is another device. -/
theorem sgOk7 (c : Dev nD) : ⟨k0_dev7 c, k0_dev7_lt c⟩ ∈ sg6 c ∧ (⟨k0_dev7 c, k0_dev7_lt c⟩ : Dev nD) ≠ c := by revert c; decide +kernel
/-- All are signalled in the end. -/
theorem sg_done (c : Dev nD) : sg7 c = ∅ := by revert c; decide +kernel

/-- The device's number as the kernel computes it. -/
def v2w (c : Dev nD) : BitVec 32 := Scalar.remsi (Scalar.divsi (Dev.word c) 1#32) 8#32

/-- The weakest precondition on device `c`, as every step states it. -/
abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The staged inputs, and the stage -/

/-- The staged inputs the stage is filled from, and the first `n` pieces of the stage in place. -/
def stSt (c : Dev nD) (n : ℕ) : sProp 𝕄 :=
  iprop((((c : Thread nD τ).loc cc0_stg0_0) ↦{fullShare} xs m c) ∗ (((c : Thread nD τ).loc cc0_stg1_0) ↦{fullShare} wqs m c)
    ∗ (((c : Thread nD τ).loc cc0_stg2_0) ↦{fullShare} ks m c) ∗ (((c : Thread nD τ).loc cc0_stg3_0) ↦{fullShare} vs m c) ∗ stgAt m c n)

/-- A load from the staged activations. -/
theorem readX (c : Dev nD) {n : ℕ} {r : LoadRect S2x256x512} {hl : xM.view.LoadsAt r} {α : Type}
    {k : (r.shape.Idx → Elt F .f32) → Prog (TpuEff nD τ sig (Elt F) Λ₀ .tc) α} {Q : α → sProp 𝕄} :
    stSt m c n
      ⊢ iprop((stSt m c n -∗ wp frame (wpE (defs₀ (F := F)) 𝒱₀ (c : Thread nD τ) none) Set.univ (k ((xM : Memref sig .tc .vmem S2x256x512 .f32).view.readAt (Elt F) r (xs m c))) Q)
        -∗ wp frame (wpE (defs₀ (F := F)) 𝒱₀ (c : Thread nD τ) none) Set.univ (.op (.load xM r hl) k) Q) := by
  unfold stSt
  iintro ⟨HX, HW, HK, HV, HS⟩ Hk
  iapply (wp_load 𝒱₀ (c : Thread nD τ) none Set.univ (m := xM) (Finset.subset_univ _)) $$ HX
  iintro HX
  iapply Hk
  isplitl [HX]; · iexact HX
  isplitl [HW]; · iexact HW
  isplitl [HK]; · iexact HK
  isplitl [HV]; · iexact HV
  iexact HS

/-- A load from the staged query weights. -/
theorem readWq (c : Dev nD) {n : ℕ} {r : LoadRect S512x256} {hl : wqM.view.LoadsAt r} {α : Type}
    {k : (r.shape.Idx → Elt F .f32) → Prog (TpuEff nD τ sig (Elt F) Λ₀ .tc) α} {Q : α → sProp 𝕄} :
    stSt m c n
      ⊢ iprop((stSt m c n -∗ wp frame (wpE (defs₀ (F := F)) 𝒱₀ (c : Thread nD τ) none) Set.univ (k ((wqM : Memref sig .tc .vmem S512x256 .f32).view.readAt (Elt F) r (wqs m c))) Q)
        -∗ wp frame (wpE (defs₀ (F := F)) 𝒱₀ (c : Thread nD τ) none) Set.univ (.op (.load wqM r hl) k) Q) := by
  unfold stSt
  iintro ⟨HX, HW, HK, HV, HS⟩ Hk
  iapply (wp_load 𝒱₀ (c : Thread nD τ) none Set.univ (m := wqM) (Finset.subset_univ _)) $$ HW
  iintro HW
  iapply Hk
  isplitl [HX]; · iexact HX
  isplitl [HW]; · iexact HW
  isplitl [HK]; · iexact HK
  isplitl [HV]; · iexact HV
  iexact HS

/-- A load from the staged keys. -/
theorem readK (c : Dev nD) {n : ℕ} {r : LoadRect S2x256x4x64} {hl : kM.view.LoadsAt r} {α : Type}
    {k : (r.shape.Idx → Elt F .f32) → Prog (TpuEff nD τ sig (Elt F) Λ₀ .tc) α} {Q : α → sProp 𝕄} :
    stSt m c n
      ⊢ iprop((stSt m c n -∗ wp frame (wpE (defs₀ (F := F)) 𝒱₀ (c : Thread nD τ) none) Set.univ (k ((kM : Memref sig .tc .vmem S2x256x4x64 .f32).view.readAt (Elt F) r (ks m c))) Q)
        -∗ wp frame (wpE (defs₀ (F := F)) 𝒱₀ (c : Thread nD τ) none) Set.univ (.op (.load kM r hl) k) Q) := by
  unfold stSt
  iintro ⟨HX, HW, HK, HV, HS⟩ Hk
  iapply (wp_load 𝒱₀ (c : Thread nD τ) none Set.univ (m := kM) (Finset.subset_univ _)) $$ HK
  iintro HK
  iapply Hk
  isplitl [HX]; · iexact HX
  isplitl [HW]; · iexact HW
  isplitl [HK]; · iexact HK
  isplitl [HV]; · iexact HV
  iexact HS

/-- A load from the staged values. -/
theorem readV (c : Dev nD) {n : ℕ} {r : LoadRect S2x256x4x64} {hl : vM.view.LoadsAt r} {α : Type}
    {k : (r.shape.Idx → Elt F .f32) → Prog (TpuEff nD τ sig (Elt F) Λ₀ .tc) α} {Q : α → sProp 𝕄} :
    stSt m c n
      ⊢ iprop((stSt m c n -∗ wp frame (wpE (defs₀ (F := F)) 𝒱₀ (c : Thread nD τ) none) Set.univ (k ((vM : Memref sig .tc .vmem S2x256x4x64 .f32).view.readAt (Elt F) r (vs m c))) Q)
        -∗ wp frame (wpE (defs₀ (F := F)) 𝒱₀ (c : Thread nD τ) none) Set.univ (.op (.load vM r hl) k) Q) := by
  unfold stSt
  iintro ⟨HX, HW, HK, HV, HS⟩ Hk
  iapply (wp_load 𝒱₀ (c : Thread nD τ) none Set.univ (m := vM) (Finset.subset_univ _)) $$ HV
  iintro HV
  iapply Hk
  isplitl [HX]; · iexact HX
  isplitl [HW]; · iexact HW
  isplitl [HK]; · iexact HK
  isplitl [HV]; · iexact HV
  iexact HS

/-- A piece stored, after the load of its place that nothing uses. -/
theorem put (c : Dev nD) {n : ℕ} (hn : n < 24) {o : Fin 4 → ℕ} (ho : o = ![n / 3, n % 3, 0, 0]) {h : ∀ a, o a + S1x1x64x256.size a ≤ S8x3x64x256.size a} {w : S1x1x64x256.Idx → Elt F .bf16}
    (hw : w = spay m c ⟨n / 3, by show n / 3 < 8; omega⟩ ⟨n % 3, Nat.mod_lt _ (by decide)⟩) {hx hm}  {α : Type}
    {k : PUnit → Prog (TpuEff nD τ sig (Elt F) Λ₀ .tc) α} {Q : α → sProp 𝕄} :
    stSt m c n
      ⊢ iprop((stSt m c (n + 1) -∗ wp frame (wpE (defs₀ (F := F)) 𝒱₀ (c : Thread nD τ) none) Set.univ (k ⟨⟩) Q)
        -∗ wp frame (wpE (defs₀ (F := F)) 𝒱₀ (c : Thread nD τ) none) Set.univ (.op (.store stM (Rect.unit (s := S8x3x64x256) o S1x1x64x256.size h) w Finset.univ hx hm) k) Q) := by
  unfold stSt
  iintro ⟨HX, HW, HK, HV, HS⟩ Hk
  iapply (step_stage m c hn ho hw) $$ HS
  iintro HS
  iapply Hk
  isplitl [HX]; · iexact HX
  isplitl [HW]; · iexact HW
  isplitl [HK]; · iexact HK
  isplitl [HV]; · iexact HV
  iexact HS
/-- A load from the stage whose value nothing uses leaves the staging state as it was. -/
theorem peek (c : Dev nD) {n : ℕ} {r : LoadRect S8x3x64x256} {hl : stM.view.LoadsAt r} {α : Type}
    {k : (r.shape.Idx → Elt F .bf16) → Prog (TpuEff nD τ sig (Elt F) Λ₀ .tc) α} {Q : α → sProp 𝕄} :
    stSt m c n
      ⊢ iprop((∀ v, stSt m c n -∗ wp frame (wpE (defs₀ (F := F)) 𝒱₀ (c : Thread nD τ) none) Set.univ (k v) Q)
        -∗ wp frame (wpE (defs₀ (F := F)) 𝒱₀ (c : Thread nD τ) none) Set.univ (.op (.load stM r hl) k) Q) := by
  unfold stSt
  iintro ⟨HX, HW, HK, HV, HS⟩ Hk
  iapply (step_peek m c) $$ HS
  iintro %v HS
  iapply Hk
  isplitl [HX]; · iexact HX
  isplitl [HW]; · iexact HW
  isplitl [HK]; · iexact HK
  isplitl [HV]; · iexact HV
  iexact HS

/-! ## The parts -/

/-- The query weights, and a batch of the activations, as the loads read them. -/
abbrev rdW (c : Dev nD) : Vec F S512x256 .f32 := ((wqM : Memref sig .tc .vmem S512x256 .f32).view.readAt (Elt F) (Rect.unit (s := S512x256) ![0, 0] S512x256.size inb_S512x256_S512x256_0_0).toLoadRect (wqs m c))
/-- The first batch of the activations. -/
abbrev rdX0 (c : Dev nD) : Vec F S1x256x512 .f32 := ((xM : Memref sig .tc .vmem S2x256x512 .f32).view.readAt (Elt F) (Rect.unit (s := S2x256x512) ![0, 0, 0] S1x256x512.size inb_S2x256x512_S1x256x512_0_0_0).toLoadRect (xs m c))
/-- The second batch of the activations. -/
abbrev rdX1 (c : Dev nD) : Vec F S1x256x512 .f32 := ((xM : Memref sig .tc .vmem S2x256x512 .f32).view.readAt (Elt F) (Rect.unit (s := S2x256x512) ![1, 0, 0] S1x256x512.size inb_S2x256x512_S1x256x512_1_0_0).toLoadRect (xs m c))
/-- The first six signals. -/
theorem run_part1 (K : Dev nD × Fin 19 → ℕ) (c : Dev nD) {α : Type} {k : _ → Prog (TpuEff nD τ sig (Elt F) Λ₀ .tc) α} {Q : α → sProp 𝕄} :
    iprop(records m K ∗ sigSt c (sg0 c))
      ⊢ iprop((sigSt c (sg6 c) -∗ wp frame (wpE (defs₀ (F := F)) 𝒱₀ (c : Thread nD τ) none) Set.univ (k ⟨c, v2w c, SemArray.scalar (sig.barrier 0 rfl), Scalar.muli (Scalar.xori (v2w c) 7#32) 1#32⟩) Q)
        -∗ wp frame (wpE (defs₀ (F := F)) 𝒱₀ (c : Thread nD τ) none) Set.univ (k0_part1 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 >>= k) Q) := by
  rw [k0_part1_eq_skeleton]; unfold k0_part1_skel
  simp only [semSignalWord, semWaitWord, Prog.lift, Prog.bind_op, Prog.bind_ret, Prog.pure_eq_ret, wp_deviceId]
  iintro ⟨#HR, H⟩ Hk
  iapply (step_signal m K c _ (sgOk1 c).1 (sgOk1 c).2 (by decide)) $$ [H]
  · isplitr; · iexact HR
    iexact H
  iintro H
  iapply (step_signal m K c _ (sgOk2 c).1 (sgOk2 c).2 (by decide)) $$ [H]
  · isplitr; · iexact HR
    iexact H
  iintro H
  iapply (step_signal m K c _ (sgOk3 c).1 (sgOk3 c).2 (by decide)) $$ [H]
  · isplitr; · iexact HR
    iexact H
  iintro H
  iapply (step_signal m K c _ (sgOk4 c).1 (sgOk4 c).2 (by decide)) $$ [H]
  · isplitr; · iexact HR
    iexact H
  iintro H
  iapply (step_signal m K c _ (sgOk5 c).1 (sgOk5 c).2 (by decide)) $$ [H]
  · isplitr; · iexact HR
    iexact H
  iintro H
  iapply (step_signal m K c _ (sgOk6 c).1 (sgOk6 c).2 (by decide)) $$ [H]
  · isplitr; · iexact HR
    iexact H
  iintro H
  iapply Hk
  iexact H

/-- The last signal, and the first three stores. -/
theorem run_part2 (K : Dev nD × Fin 19 → ℕ) (v23 : BitVec 32) (c : Dev nD) {α : Type} {k : _ → Prog (TpuEff nD τ sig (Elt F) Λ₀ .tc) α} {Q : α → sProp 𝕄} :
    iprop(records m K ∗ sigSt c (sg6 c) ∗ stSt m c 0)
      ⊢ iprop(((sigSt c (sg7 c) ∗ stSt m c 3) -∗ wp frame (wpE (defs₀ (F := F)) 𝒱₀ (c : Thread nD τ) none) Set.univ (k ⟨(k0_pay1 (rdW m c)), (k0_pay2 (rdW m c) (rdX0 m c)), (k0_pay6 (rdW m c) (rdX0 m c))⟩) Q)
        -∗ wp frame (wpE (defs₀ (F := F)) 𝒱₀ (c : Thread nD τ) none) Set.univ (k0_part2 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 c (SemArray.scalar (sig.barrier 0 rfl)) v23 >>= k) Q) := by
  rw [k0_part2_eq_skeleton]; unfold k0_part2_skel
  simp only [semSignalWord, semWaitWord, Prog.lift, Prog.bind_op, Prog.bind_ret, Prog.pure_eq_ret, wp_deviceId]
  iintro ⟨#HR, HG, H⟩ Hk
  iapply (step_signal m K c _ (sgOk7 c).1 (sgOk7 c).2 (by decide)) $$ [HG]
  · isplitr; · iexact HR
    iexact HG
  iintro HG
  iapply (readWq m c) $$ H; iintro H
  iapply (readX m c) $$ H; iintro H
  iapply (peek m c) $$ H; iintro %_ H
  iapply (put m c (n := 0) (by decide) (by rfl) (by rfl)) $$ H; iintro H
  iapply (readK m c) $$ H; iintro H
  iapply (peek m c) $$ H; iintro %_ H
  iapply (put m c (n := 1) (by decide) (by rfl) (by rfl)) $$ H; iintro H
  iapply (readV m c) $$ H; iintro H
  iapply (peek m c) $$ H; iintro %_ H
  iapply (put m c (n := 2) (by decide) (by rfl) (by rfl)) $$ H; iintro H
  iapply Hk
  isplitl [HG]; · iexact HG
  iexact H

/-- Pieces 3 to 6. -/
theorem run_part3 (c : Dev nD) {α : Type} {k : _ → Prog (TpuEff nD τ sig (Elt F) Λ₀ .tc) α} {Q : α → sProp 𝕄} :
    stSt m c 3
      ⊢ iprop((stSt m c 7 -∗ wp frame (wpE (defs₀ (F := F)) 𝒱₀ (c : Thread nD τ) none) Set.univ (k (k0_pay11 ((kM : Memref sig .tc .vmem S2x256x4x64 .f32).view.readAt (Elt F) (Rect.unit (s := S2x256x4x64) ![0, 128, 0, 0] S1x64x4x64.size inb_S2x256x4x64_S1x64x4x64_0_128_0_0).toLoadRect (ks m c)))) Q)
        -∗ wp frame (wpE (defs₀ (F := F)) 𝒱₀ (c : Thread nD τ) none) Set.univ (k0_part3 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 (k0_pay2 (rdW m c) (rdX0 m c)) (k0_pay6 (rdW m c) (rdX0 m c)) >>= k) Q) := by
  rw [k0_part3_eq_skeleton]; unfold k0_part3_skel
  simp only [semSignalWord, semWaitWord, Prog.lift, Prog.bind_op, Prog.bind_ret, Prog.pure_eq_ret, wp_deviceId]
  iintro H Hk
  iapply (peek m c) $$ H; iintro %_ H
  iapply (put m c (n := 3) (by decide) (by rfl) (by rfl)) $$ H; iintro H
  iapply (readK m c) $$ H; iintro H
  iapply (peek m c) $$ H; iintro %_ H
  iapply (put m c (n := 4) (by decide) (by rfl) (by rfl)) $$ H; iintro H
  iapply (readV m c) $$ H; iintro H
  iapply (peek m c) $$ H; iintro %_ H
  iapply (put m c (n := 5) (by decide) (by rfl) (by rfl)) $$ H; iintro H
  iapply (peek m c) $$ H; iintro %_ H
  iapply (put m c (n := 6) (by decide) (by rfl) (by rfl)) $$ H; iintro H
  iapply (readK m c) $$ H; iintro H
  iapply Hk; iexact H

/-- Pieces 7 to 10. -/
theorem run_part4 (c : Dev nD) {α : Type} {k : _ → Prog (TpuEff nD τ sig (Elt F) Λ₀ .tc) α} {Q : α → sProp 𝕄} :
    stSt m c 7
      ⊢ iprop((stSt m c 11 -∗ wp frame (wpE (defs₀ (F := F)) 𝒱₀ (c : Thread nD τ) none) Set.univ (k (k0_pay16 ((vM : Memref sig .tc .vmem S2x256x4x64 .f32).view.readAt (Elt F) (Rect.unit (s := S2x256x4x64) ![0, 192, 0, 0] S1x64x4x64.size inb_S2x256x4x64_S1x64x4x64_0_192_0_0).toLoadRect (vs m c)))) Q)
        -∗ wp frame (wpE (defs₀ (F := F)) 𝒱₀ (c : Thread nD τ) none) Set.univ (k0_part4 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 (k0_pay2 (rdW m c) (rdX0 m c)) (k0_pay11 ((kM : Memref sig .tc .vmem S2x256x4x64 .f32).view.readAt (Elt F) (Rect.unit (s := S2x256x4x64) ![0, 128, 0, 0] S1x64x4x64.size inb_S2x256x4x64_S1x64x4x64_0_128_0_0).toLoadRect (ks m c))) >>= k) Q) := by
  rw [k0_part4_eq_skeleton]; unfold k0_part4_skel
  simp only [semSignalWord, semWaitWord, Prog.lift, Prog.bind_op, Prog.bind_ret, Prog.pure_eq_ret, wp_deviceId]
  iintro H Hk
  iapply (peek m c) $$ H; iintro %_ H
  iapply (put m c (n := 7) (by decide) (by rfl) (by rfl)) $$ H; iintro H
  iapply (readV m c) $$ H; iintro H
  iapply (peek m c) $$ H; iintro %_ H
  iapply (put m c (n := 8) (by decide) (by rfl) (by rfl)) $$ H; iintro H
  iapply (peek m c) $$ H; iintro %_ H
  iapply (put m c (n := 9) (by decide) (by rfl) (by rfl)) $$ H; iintro H
  iapply (readK m c) $$ H; iintro H
  iapply (peek m c) $$ H; iintro %_ H
  iapply (put m c (n := 10) (by decide) (by rfl) (by rfl)) $$ H; iintro H
  iapply (readV m c) $$ H; iintro H
  iapply (peek m c) $$ H; iintro %_ H
  iapply Hk; iexact H

/-- Pieces 11 to 15. -/
theorem run_part5 (c : Dev nD) {α : Type} {k : _ → Prog (TpuEff nD τ sig (Elt F) Λ₀ .tc) α} {Q : α → sProp 𝕄} :
    stSt m c 11
      ⊢ iprop((stSt m c 16 -∗ wp frame (wpE (defs₀ (F := F)) 𝒱₀ (c : Thread nD τ) none) Set.univ (k (k0_pay17 (k0_pay1 (rdW m c)) (rdX1 m c))) Q)
        -∗ wp frame (wpE (defs₀ (F := F)) 𝒱₀ (c : Thread nD τ) none) Set.univ (k0_part5 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 (k0_pay1 (rdW m c)) (k0_pay16 ((vM : Memref sig .tc .vmem S2x256x4x64 .f32).view.readAt (Elt F) (Rect.unit (s := S2x256x4x64) ![0, 192, 0, 0] S1x64x4x64.size inb_S2x256x4x64_S1x64x4x64_0_192_0_0).toLoadRect (vs m c))) >>= k) Q) := by
  rw [k0_part5_eq_skeleton]; unfold k0_part5_skel
  simp only [semSignalWord, semWaitWord, Prog.lift, Prog.bind_op, Prog.bind_ret, Prog.pure_eq_ret, wp_deviceId]
  iintro H Hk
  iapply (put m c (n := 11) (by decide) (by rfl) (by rfl)) $$ H; iintro H
  iapply (readX m c) $$ H; iintro H
  iapply (peek m c) $$ H; iintro %_ H
  iapply (put m c (n := 12) (by decide) (by rfl) (by rfl)) $$ H; iintro H
  iapply (readK m c) $$ H; iintro H
  iapply (peek m c) $$ H; iintro %_ H
  iapply (put m c (n := 13) (by decide) (by rfl) (by rfl)) $$ H; iintro H
  iapply (readV m c) $$ H; iintro H
  iapply (peek m c) $$ H; iintro %_ H
  iapply (put m c (n := 14) (by decide) (by rfl) (by rfl)) $$ H; iintro H
  iapply (peek m c) $$ H; iintro %_ H
  iapply (put m c (n := 15) (by decide) (by rfl) (by rfl)) $$ H; iintro H
  iapply Hk; iexact H

/-- Pieces 16 to 19. -/
theorem run_part6 (c : Dev nD) {α : Type} {k : _ → Prog (TpuEff nD τ sig (Elt F) Λ₀ .tc) α} {Q : α → sProp 𝕄} :
    stSt m c 16
      ⊢ iprop((stSt m c 20 -∗ wp frame (wpE (defs₀ (F := F)) 𝒱₀ (c : Thread nD τ) none) Set.univ (k ⟨⟩) Q)
        -∗ wp frame (wpE (defs₀ (F := F)) 𝒱₀ (c : Thread nD τ) none) Set.univ (k0_part6 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 (k0_pay17 (k0_pay1 (rdW m c)) (rdX1 m c)) >>= k) Q) := by
  rw [k0_part6_eq_skeleton]; unfold k0_part6_skel
  simp only [semSignalWord, semWaitWord, Prog.lift, Prog.bind_op, Prog.bind_ret, Prog.pure_eq_ret, wp_deviceId]
  iintro H Hk
  iapply (readK m c) $$ H; iintro H
  iapply (peek m c) $$ H; iintro %_ H
  iapply (put m c (n := 16) (by decide) (by rfl) (by rfl)) $$ H; iintro H
  iapply (readV m c) $$ H; iintro H
  iapply (peek m c) $$ H; iintro %_ H
  iapply (put m c (n := 17) (by decide) (by rfl) (by rfl)) $$ H; iintro H
  iapply (peek m c) $$ H; iintro %_ H
  iapply (put m c (n := 18) (by decide) (by rfl) (by rfl)) $$ H; iintro H
  iapply (readK m c) $$ H; iintro H
  iapply (peek m c) $$ H; iintro %_ H
  iapply (put m c (n := 19) (by decide) (by rfl) (by rfl)) $$ H; iintro H
  iapply Hk; iexact H

/-- The last four pieces, and the wait for the seven others. -/
theorem run_part7 (K : Dev nD × Fin 19 → ℕ) (v2 : BitVec 32) (c : Dev nD) {α : Type} {k : _ → Prog (TpuEff nD τ sig (Elt F) Λ₀ .tc) α} {Q : α → sProp 𝕄} :
    iprop(stSt m c 20 ∗ records m K ∗ levAts L lv ∗ cred (tallyAt (kcell (c, kba)) () 7) ∗ (∃ W, owes (c : Thread nD τ) (OQ c (Finset.univ.erase c)) W) ∗ atPos ER (kcell (c, kba)) 0 ∅ 0)
      ⊢ iprop(((stSt m c 24 ∗ (∃ W, owes (c : Thread nD τ) (OQ c (Finset.univ.erase c)) W) ∗ atPos ER (kcell (c, kba)) 1 ∅ 0 ∗ bigSep (Finset.univ.erase c) fun p => barPay (F := F) c p) -∗ wp frame (wpE (defs₀ (F := F)) 𝒱₀ (c : Thread nD τ) none) Set.univ (k (Scalar.extui (Scalar.cmpi .ne v2 0#32))) Q)
        -∗ wp frame (wpE (defs₀ (F := F)) 𝒱₀ (c : Thread nD τ) none) Set.univ (k0_part7 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 v2 (SemArray.scalar (sig.barrier 0 rfl)) (k0_pay17 (k0_pay1 (rdW m c)) (rdX1 m c)) >>= k) Q) := by
  rw [k0_part7_eq_skeleton]; unfold k0_part7_skel
  simp only [semSignalWord, semWaitWord, Prog.lift, Prog.bind_op, Prog.bind_ret, Prog.pure_eq_ret, wp_deviceId]
  iintro ⟨H, HB⟩ Hk
  iapply (readV m c) $$ H; iintro H
  iapply (peek m c) $$ H; iintro %_ H
  iapply (put m c (n := 20) (by decide) (by rfl) (by rfl)) $$ H; iintro H
  iapply (peek m c) $$ H; iintro %_ H
  iapply (put m c (n := 21) (by decide) (by rfl) (by rfl)) $$ H; iintro H
  iapply (readK m c) $$ H; iintro H
  iapply (peek m c) $$ H; iintro %_ H
  iapply (put m c (n := 22) (by decide) (by rfl) (by rfl)) $$ H; iintro H
  iapply (readV m c) $$ H; iintro H
  iapply (peek m c) $$ H; iintro %_ H
  iapply (put m c (n := 23) (by decide) (by rfl) (by rfl)) $$ H; iintro H
  iapply (step_bar m K c (by decide)) $$ HB
  iintro HB
  iapply Hk
  isplitl [H]; · iexact H
  iexact HB

end Cert.KernelIdealProof

end
-- ==== Proof.Body2.lean ====
/-
The kernel's second half on one device, step by step: the copies it takes only for some devices, and the rows of the
buffers put together.
-/
module

public import proofs.«01_k».proof.Proof.Body1

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is still to be sent -/

/-- The other devices from number `n` on, and all devices from number `n` on. -/
def QS (c : Dev nD) (n : ℕ) : Finset (Dev nD) := (Finset.univ.erase c).filter fun d => n ≤ d.val
/-- All devices from number `n` on. -/
def OS (n : ℕ) : Finset (Dev nD) := Finset.univ.filter fun d => n ≤ d.val

/-- At first every peer is still to be served. -/
theorem QS_zero (c : Dev nD) : QS c 0 = Finset.univ.erase c := Finset.filter_true_of_mem fun _ _ => Nat.zero_le _
/-- After the eighth slot no peer is left. -/
theorem QS_done (c : Dev nD) : QS c 8 = ∅ := Finset.filter_eq_empty_iff.mpr fun d _ => by have : d.val < 8 := d.2; omega
/-- At first every device's own slot lies ahead. -/
theorem OS_zero : OS 0 = Finset.univ := Finset.filter_true_of_mem fun _ _ => Nat.zero_le _
/-- A peer numbered `n` is among those still to be served from `n` on. -/
theorem QS_mem (c : Dev nD) {n : ℕ} (hn : n < 8) (h : c.val ≠ n) : (⟨n, hn⟩ : Dev nD) ∈ QS c n :=
  Finset.mem_filter.mpr ⟨Finset.mem_erase.mpr ⟨fun e => h (by rw [← e]), Finset.mem_univ _⟩, Nat.le_refl _⟩
/-- Going past slot `n` takes device `n` away from those still to be served. -/
theorem QS_succ (c : Dev nD) {n : ℕ} (hn : n < 8) : QS c (n + 1) = (QS c n).erase ⟨n, hn⟩ := by
  ext d
  simp only [QS, Finset.mem_filter, Finset.mem_erase, Finset.mem_univ, and_true]
  constructor
  · rintro ⟨h1, h2⟩
    exact ⟨fun e => by rw [e] at h2; exact absurd h2 (Nat.not_succ_le_self n), h1, Nat.le_of_succ_le h2⟩
  · rintro ⟨h1, h2, h3⟩
    exact ⟨h2, Nat.lt_of_le_of_ne h3 fun e => h1 (Fin.ext e.symm)⟩
/-- A device's own slot takes nobody away from its peers. -/
theorem QS_self (c : Dev nD) : QS c (c.val + 1) = QS c c.val := by
  rw [QS_succ c c.2]
  exact Finset.erase_eq_of_notMem fun h => Finset.notMem_erase c _ (Finset.mem_of_mem_filter _ h)
/-- Going past a device's own slot takes that device away. -/
theorem OS_succ (c : Dev nD) : OS (c.val + 1) = (OS c.val).erase c := by
  ext d
  simp only [OS, Finset.mem_filter, Finset.mem_erase, Finset.mem_univ, true_and]
  constructor
  · intro h
    exact ⟨fun e => by rw [e] at h; exact absurd h (Nat.not_succ_le_self _), Nat.le_of_succ_le h⟩
  · rintro ⟨h1, h3⟩
    exact Nat.lt_of_le_of_ne h3 fun e => h1 (Fin.ext e.symm)
/-- A device's own slot lies ahead exactly until its number has been passed. -/
theorem OS_mem (c : Dev nD) (n : ℕ) : c ∈ OS n ↔ n ≤ c.val := by simp [OS]
/-- A slot that is not the device's own leaves its own row of the first landing buffer as it was. -/
theorem qOwn_next (c : Dev nD) {n : ℕ} (h : c.val ≠ n) : qOwn m c (OS n) = qOwn m c (OS (n + 1)) := by
  unfold qOwn
  simp only [OS_mem]
  by_cases h1 : n ≤ c.val
  · rw [if_pos h1, if_pos (by omega)]
  · rw [if_neg h1, if_neg (by omega)]
/-- A slot that is not the device's own leaves its own row of the second landing buffer as it was. -/
theorem cOwn_next (c : Dev nD) {n : ℕ} (h : c.val ≠ n) : cOwn m c (OS n) = cOwn m c (OS (n + 1)) := by
  unfold cOwn
  simp only [OS_mem]
  by_cases h1 : n ≤ c.val
  · rw [if_pos h1, if_pos (by omega)]
  · rw [if_neg h1, if_neg (by omega)]

/-! ## Steps taken only for some devices -/

/-- A send towards device `n`, taken on every other device. -/
theorem guard_sendQ (K : Dev nD × Fin 19 → ℕ) (c : Dev nD) (n : ℕ) (hn : n < 8) {P : Prop} [Decidable P] (hP : P ↔ c.val ≠ n)
    {o o' : Fin 4 → ℕ} (ho : o = ![n, 0, 0, 0]) (ho' : o' = ![c.val, 0, 0, 0])
    {h : ∀ a, o a + S1x3x64x256.size a ≤ S8x3x64x256.size a} {h' : P → ∀ a, o' a + S1x3x64x256.size a ≤ S8x3x64x256.size a}
    {x : P → Dev nD} (hx : ∀ hp, x hp = ⟨n, hn⟩) {sS sR : SemLoc sig} (hsS : sS = csem (kqs ⟨n, hn⟩)) (hsR : sR = csem kqr)
    {hsc : ∀ hp : P, (sl4 wM o' (h' hp)).view.ref.isScScratch = false} {hsrc : P → (sl4 stM o h).view.WordExact} {hdst : ∀ hp : P, (sl4 wM o' (h' hp)).view.WordExact}
    {hsem : ∀ hp : P, DmaTarget.Typed (nD := nD) (τ := τ) (sig := sig) (p := .tc) .vmem sR (.remote (x hp : Thread nD τ) (sl4 wM o' (h' hp)) sS (hsc hp))}
    {α β : Type} {j : Prog (TpuEff nD τ sig (Elt F) Λ₀ .tc) β} {k : β → Prog (TpuEff nD τ sig (Elt F) Λ₀ .tc) α} {Q : α → sProp 𝕄} :
    iprop(records m K ∗ qSt m c (QS c n))
      ⊢ iprop((qSt m c (QS c (n + 1)) -∗ wp frame (wpE (defs₀ (F := F)) 𝒱₀ (c : Thread nD τ) none) Set.univ (j >>= k) Q)
        -∗ wp frame (wpE (defs₀ (F := F)) 𝒱₀ (c : Thread nD τ) none) Set.univ
          ((if hp : P then (Prog.lift (.enqueueDma (sl4 stM o h) (.remote (x hp : Thread nD τ) (sl4 wM o' (h' hp)) sS (hsc hp)) sR (hsrc hp) (hdst hp) (hsem hp)) >>= fun _ => j)
            else j) >>= k) Q) := by
  by_cases hp : P
  · rw [dif_pos hp, QS_succ c hn]
    simp only [Prog.lift, Prog.bind_op, Prog.bind_ret]
    exact step_sendQ m K c (k := fun _ => j >>= k) ⟨n, hn⟩ (QS_mem c hn (hP.mp hp)) (fun e => (hP.mp hp) (by rw [← e])) ho ho' (hx hp) hsS hsR
  · have e : c.val = n := Decidable.not_not.mp fun h => hp (hP.mpr h)
    rw [dif_neg hp, ← e, QS_self]
    iintro ⟨#HR, H⟩ Hk
    iapply Hk
    iexact H

/-- A send towards device `n`, taken on every other device. -/
theorem guard_sendC (K : Dev nD × Fin 19 → ℕ) (c : Dev nD) (n : ℕ) (hn : n < 8) {P : Prop} [Decidable P] (hP : P ↔ c.val ≠ n)
    {o o' : Fin 3 → ℕ} (ho : o = ![n, 0, 0]) (ho' : o' = ![c.val, 0, 0])
    {h : ∀ a, o a + S1x64x256.size a ≤ S8x64x256.size a} {h' : P → ∀ a, o' a + S1x64x256.size a ≤ S8x64x256.size a}
    {x : P → Dev nD} (hx : ∀ hp, x hp = ⟨n, hn⟩) {sS sR : SemLoc sig} (hsS : sS = csem (kcs ⟨n, hn⟩)) (hsR : sR = csem kcr)
    {hsc : ∀ hp : P, (sl3 cbM o' (h' hp)).view.ref.isScScratch = false} {hsrc : P → (sl3 ctM o h).view.WordExact} {hdst : ∀ hp : P, (sl3 cbM o' (h' hp)).view.WordExact}
    {hsem : ∀ hp : P, DmaTarget.Typed (nD := nD) (τ := τ) (sig := sig) (p := .tc) .vmem sR (.remote (x hp : Thread nD τ) (sl3 cbM o' (h' hp)) sS (hsc hp))}
    {α β : Type} {j : Prog (TpuEff nD τ sig (Elt F) Λ₀ .tc) β} {k : β → Prog (TpuEff nD τ sig (Elt F) Λ₀ .tc) α} {Q : α → sProp 𝕄} :
    iprop(records m K ∗ cSt m c (QS c n))
      ⊢ iprop((cSt m c (QS c (n + 1)) -∗ wp frame (wpE (defs₀ (F := F)) 𝒱₀ (c : Thread nD τ) none) Set.univ (j >>= k) Q)
        -∗ wp frame (wpE (defs₀ (F := F)) 𝒱₀ (c : Thread nD τ) none) Set.univ
          ((if hp : P then (Prog.lift (.enqueueDma (sl3 ctM o h) (.remote (x hp : Thread nD τ) (sl3 cbM o' (h' hp)) sS (hsc hp)) sR (hsrc hp) (hdst hp) (hsem hp)) >>= fun _ => j)
            else j) >>= k) Q) := by
  by_cases hp : P
  · rw [dif_pos hp, QS_succ c hn]
    simp only [Prog.lift, Prog.bind_op, Prog.bind_ret]
    exact step_sendC m K c (k := fun _ => j >>= k) ⟨n, hn⟩ (QS_mem c hn (hP.mp hp)) (fun e => (hP.mp hp) (by rw [← e])) ho ho' (hx hp) hsS hsR
  · have e : c.val = n := Decidable.not_not.mp fun h => hp (hP.mpr h)
    rw [dif_neg hp, ← e, QS_self]
    iintro ⟨#HR, H⟩ Hk
    iapply Hk
    iexact H

/-- The copy of a device's own row, taken on device `n` only. -/
theorem guard_copyQ (c : Dev nD) (n : ℕ) {P : Prop} [Decidable P] (hP : P ↔ c.val = n) {o : Fin 4 → ℕ} (ho : o = ![n, 0, 0, 0])
    {h h' h'' : ∀ a, o a + S1x3x64x256.size a ≤ S8x3x64x256.size a} {p : Vec F S1x3x64x256 .bf16 → FVec F S1x3x64x256 .bf16} (hp : p = fun v => v)
    {hl hl' : P → _} {hx hm : P → _} {α β : Type} {j : Prog (TpuEff nD τ sig (Elt F) Λ₀ .tc) β} {k : β → Prog (TpuEff nD τ sig (Elt F) Λ₀ .tc) α} {Q : α → sProp 𝕄} :
    qOwn m c (OS n)
      ⊢ iprop((qOwn m c (OS (n + 1)) -∗ wp frame (wpE (defs₀ (F := F)) 𝒱₀ (c : Thread nD τ) none) Set.univ (j >>= k) Q)
        -∗ wp frame (wpE (defs₀ (F := F)) 𝒱₀ (c : Thread nD τ) none) Set.univ
          ((if hp : P then (Prog.lift (.load stM (Rect.unit (s := S8x3x64x256) o S1x3x64x256.size h).toLoadRect (hl hp)) >>= fun v =>
            Prog.lift (.load wM (Rect.unit (s := S8x3x64x256) o S1x3x64x256.size h').toLoadRect (hl' hp)) >>= fun _ =>
            Prog.lift (.store wM (Rect.unit (s := S8x3x64x256) o S1x3x64x256.size h'') (p v) Finset.univ (hx hp) (hm hp)) >>= fun _ => j)
            else j) >>= k) Q) := by
  by_cases hq : P
  · have e : c.val = n := hP.mp hq
    subst e
    rw [dif_pos hq, OS_succ]
    simp only [Prog.lift, Prog.bind_op, Prog.bind_ret]
    exact step_copyQ m c (k := fun _ => j >>= k) ((OS_mem c _).mpr (Nat.le_refl _)) ho hp
  · rw [dif_neg hq, qOwn_next m c fun e => hq (hP.mpr e)]
    iintro H Hk
    iapply Hk
    iexact H

/-- The copy of a device's own row, taken on device `n` only. -/
theorem guard_copyC (c : Dev nD) (n : ℕ) {P : Prop} [Decidable P] (hP : P ↔ c.val = n) {o : Fin 3 → ℕ} (ho : o = ![n, 0, 0])
    {h h' h'' : ∀ a, o a + S1x64x256.size a ≤ S8x64x256.size a} {p : Vec F S1x64x256 .bf16 → FVec F S1x64x256 .bf16} (hp : p = fun v => v)
    {hl hl' : P → _} {hx hm : P → _} {α β : Type} {j : Prog (TpuEff nD τ sig (Elt F) Λ₀ .tc) β} {k : β → Prog (TpuEff nD τ sig (Elt F) Λ₀ .tc) α} {Q : α → sProp 𝕄} :
    cOwn m c (OS n)
      ⊢ iprop((cOwn m c (OS (n + 1)) -∗ wp frame (wpE (defs₀ (F := F)) 𝒱₀ (c : Thread nD τ) none) Set.univ (j >>= k) Q)
        -∗ wp frame (wpE (defs₀ (F := F)) 𝒱₀ (c : Thread nD τ) none) Set.univ
          ((if hp : P then (Prog.lift (.load ctM (Rect.unit (s := S8x64x256) o S1x64x256.size h).toLoadRect (hl hp)) >>= fun v =>
            Prog.lift (.load cbM (Rect.unit (s := S8x64x256) o S1x64x256.size h').toLoadRect (hl' hp)) >>= fun _ =>
            Prog.lift (.store cbM (Rect.unit (s := S8x64x256) o S1x64x256.size h'') (p v) Finset.univ (hx hp) (hm hp)) >>= fun _ => j)
            else j) >>= k) Q) := by
  by_cases hq : P
  · have e : c.val = n := hP.mp hq
    subst e
    rw [dif_pos hq, OS_succ]
    simp only [Prog.lift, Prog.bind_op, Prog.bind_ret]
    exact step_copyC m c (k := fun _ => j >>= k) ((OS_mem c _).mpr (Nat.le_refl _)) ho hp
  · rw [dif_neg hq, cOwn_next m c fun e => hq (hP.mpr e)]
    iintro H Hk
    iapply Hk
    iexact H

/-- The waits for what was sent towards device `n`, taken on every other device. -/
theorem guard_sent (K : Dev nD × Fin 19 → ℕ) (c : Dev nD) (n : ℕ) (hn : n < 8) {P : Prop} [Decidable P] (hP : P ↔ c.val ≠ n)
    {sp₁ sp₁' sp₂ sp₂' : Space} {s₁ s₁' s₂ s₂' : Shape} {e₁ e₁' e₂ e₂' : EltTy} {sem₁ sem₂ : DmaSem sig}
    (hsem₁ : SemLoc.dma sem₁ = csem (kqs ⟨n, hn⟩)) (hsem₂ : SemLoc.dma sem₂ = csem (kcs ⟨n, hn⟩))
    {src₁ : P → Memref sig .tc sp₁' s₁' e₁'} {dst₁ : Memref sig .tc sp₁ s₁ e₁} (hN₁ : dst₁.view.dmaCredit = N1) {hsrc₁ : ∀ hp, (src₁ hp).view.WordExact} {hdst₁ : P → dst₁.view.WordExact}
    {src₂ : P → Memref sig .tc sp₂' s₂' e₂'} {dst₂ : Memref sig .tc sp₂ s₂ e₂} (hN₂ : dst₂.view.dmaCredit = N2) {hsrc₂ : ∀ hp, (src₂ hp).view.WordExact} {hdst₂ : P → dst₂.view.WordExact}
    {α β : Type} {j : Prog (TpuEff nD τ sig (Elt F) Λ₀ .tc) β} {k : β → Prog (TpuEff nD τ sig (Elt F) Λ₀ .tc) α} {Q : α → sProp 𝕄} :
    iprop(records m K ∗ fSt m c (QS c n))
      ⊢ iprop((fSt m c (QS c (n + 1)) -∗ wp frame (wpE (defs₀ (F := F)) 𝒱₀ (c : Thread nD τ) none) Set.univ (j >>= k) Q)
        -∗ wp frame (wpE (defs₀ (F := F)) 𝒱₀ (c : Thread nD τ) none) Set.univ
          ((if hp : P then (Prog.lift (.waitDma2 sem₁ (src₁ hp) dst₁ (hsrc₁ hp) (hdst₁ hp)) >>= fun _ => Prog.lift (.waitDma2 sem₂ (src₂ hp) dst₂ (hsrc₂ hp) (hdst₂ hp)) >>= fun _ => j)
            else j) >>= k) Q) := by
  by_cases hp : P
  · rw [dif_pos hp, QS_succ c hn]
    simp only [Prog.lift, Prog.bind_op, Prog.bind_ret]
    exact step_sent m K c (k := fun _ => j >>= k) ⟨n, hn⟩ (QS_mem c hn (hP.mp hp)) (fun e => (hP.mp hp) (by rw [← e])) hsem₁ hsem₂ hN₁ hN₂
  · have e : c.val = n := Decidable.not_not.mp fun h => hp (hP.mpr h)
    rw [dif_neg hp, ← e, QS_self]
    iintro ⟨#HR, H⟩ Hk
    iapply Hk
    iexact H

/-! ## The rows of a buffer, put together -/
theorem rows_st (c : Dev nD) (f : CT (F := F) cc0_scratch0) : (bigSep Finset.univ fun d : Dev nD => stP c d.val f) = iprop((lst c) ↦{fullShare} f) := by
  have hu : (Finset.univ : Finset (Dev nD)).biUnion (fun d => slot4 d.val) = Finset.univ := by
    ext i
    simp only [Finset.mem_biUnion, Finset.mem_univ, true_and, iff_true]
    exact ⟨(show Fin 8 from i 0), mem_slot4.mpr rfl⟩
  have h := pointsTo_biUnion (Ix := Unit) (Name := ℕ) (U := UU) (Lvl := ℕ) (ℓ := lst c) (q := fullShare) (f := f) (Finset.univ : Finset (Dev nD)) (fun d => slot4 d.val)
    (fun d _ e _ hde => Finset.disjoint_left.mpr fun i hi hi' => hde (Fin.ext ((mem_slot4.mp hi).symm.trans (mem_slot4.mp hi'))))
  rw [hu] at h
  exact h.symm
/-- The first landing buffer is its eight rows. -/
theorem rows_w (c : Dev nD) (f : CT (F := F) cc0_scratch1) : (bigSep Finset.univ fun d : Dev nD => wP c d.val f) = iprop((lw c) ↦{fullShare} f) := by
  have hu : (Finset.univ : Finset (Dev nD)).biUnion (fun d => slot4 d.val) = Finset.univ := by
    ext i
    simp only [Finset.mem_biUnion, Finset.mem_univ, true_and, iff_true]
    exact ⟨(show Fin 8 from i 0), mem_slot4.mpr rfl⟩
  have h := pointsTo_biUnion (Ix := Unit) (Name := ℕ) (U := UU) (Lvl := ℕ) (ℓ := lw c) (q := fullShare) (f := f) (Finset.univ : Finset (Dev nD)) (fun d => slot4 d.val)
    (fun d _ e _ hde => Finset.disjoint_left.mpr fun i hi hi' => hde (Fin.ext ((mem_slot4.mp hi).symm.trans (mem_slot4.mp hi'))))
  rw [hu] at h
  exact h.symm
/-- The context buffer is its eight rows. -/
theorem rows_ct (c : Dev nD) (f : CT (F := F) cc0_scratch2) : (bigSep Finset.univ fun d : Dev nD => ctP c d.val f) = iprop((lct c) ↦{fullShare} f) := by
  have hu : (Finset.univ : Finset (Dev nD)).biUnion (fun d => slot3 d.val) = Finset.univ := by
    ext i
    simp only [Finset.mem_biUnion, Finset.mem_univ, true_and, iff_true]
    exact ⟨(show Fin 8 from i 0), mem_slot3.mpr rfl⟩
  have h := pointsTo_biUnion (Ix := Unit) (Name := ℕ) (U := UU) (Lvl := ℕ) (ℓ := lct c) (q := fullShare) (f := f) (Finset.univ : Finset (Dev nD)) (fun d => slot3 d.val)
    (fun d _ e _ hde => Finset.disjoint_left.mpr fun i hi hi' => hde (Fin.ext ((mem_slot3.mp hi).symm.trans (mem_slot3.mp hi'))))
  rw [hu] at h
  exact h.symm
/-- The second landing buffer is its eight rows. -/
theorem rows_cb (c : Dev nD) (f : CT (F := F) cc0_scratch3) : (bigSep Finset.univ fun d : Dev nD => cbP c d.val f) = iprop((lcb c) ↦{fullShare} f) := by
  have hu : (Finset.univ : Finset (Dev nD)).biUnion (fun d => slot3 d.val) = Finset.univ := by
    ext i
    simp only [Finset.mem_biUnion, Finset.mem_univ, true_and, iff_true]
    exact ⟨(show Fin 8 from i 0), mem_slot3.mpr rfl⟩
  have h := pointsTo_biUnion (Ix := Unit) (Name := ℕ) (U := UU) (Lvl := ℕ) (ℓ := lcb c) (q := fullShare) (f := f) (Finset.univ : Finset (Dev nD)) (fun d => slot3 d.val)
    (fun d _ e _ hde => Finset.disjoint_left.mpr fun i hi hi' => hde (Fin.ext ((mem_slot3.mp hi).symm.trans (mem_slot3.mp hi'))))
  rw [hu] at h
  exact h.symm

end Cert.KernelIdealProof

end
-- ==== Proof.Body3.lean ====
/-
The kernel's second half on one device: the two exchanges, the attention, the output, and the waits for what it sent.
-/
module

public import proofs.«01_k».proof.Proof.Body2

public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 2000000

/-- The reshape in the first local copy changes nothing. -/
theorem copyQ_id : k0_pay30 (F := F) = fun v => v := funext fun v => shapeCast_self v _
/-- The reshape in the second local copy changes nothing. -/
theorem copyC_id : k0_pay44 (F := F) = fun v => v := funext fun v => shapeCast_self v _
/-- The test of a device's own number, as the kernel makes it. -/
theorem own_iff (c : Dev nD) : ∀ n : Fin 8, (Scalar.cmpi .ne (Scalar.extui (Scalar.cmpi .eq (v2w c) (BitVec.ofNat 32 n.val)) : BitVec 32) 0#32 = 1#1) ↔ c.val = n.val := by
  revert c; decide +kernel

/-! ## Loads and stores of whole buffers -/

/-- Loading part `a` of the full first landing buffer gives the queries, keys or values gathered there. -/
theorem read_part (c : Dev nD) (a : Fin 3) {o : Fin 4 → ℕ} (ho : o = ![0, a.val, 0, 0]) {h : ∀ b, o b + S8x1x64x256.size b ≤ S8x3x64x256.size b} {hl} {α : Type}
    {k : (S8x1x64x256.Idx → Elt F .bf16) → Prog (TpuEff nD τ sig (Elt F) Λ₀ .tc) α} {Q : α → sProp 𝕄} :
    iprop((lw c) ↦{fullShare} Wf m c)
      ⊢ iprop((((lw c) ↦{fullShare} Wf m c) -∗ wp frame (wpE (defs₀ (F := F)) 𝒱₀ (c : Thread nD τ) none) Set.univ (k (part m c a)) Q)
        -∗ wp frame (wpE (defs₀ (F := F)) 𝒱₀ (c : Thread nD τ) none) Set.univ (.op (.load wM (Rect.unit (s := S8x3x64x256) o S8x1x64x256.size h).toLoadRect hl) k) Q) := by
  subst ho
  exact wp_load 𝒱₀ (c : Thread nD τ) none Set.univ (m := wM) (Finset.subset_univ _)
/-- Loading row `p` of the full second landing buffer gives the context rows that came from device `p`. -/
theorem read_row (c : Dev nD) (p : ℕ) {h₀ : ∀ a, (![p, 0, 0] : Fin 3 → ℕ) a + S1x64x256.size a ≤ S8x64x256.size a} {hl} {α : Type}
    {k : (S1x64x256.Idx → Elt F .bf16) → Prog (TpuEff nD τ sig (Elt F) Λ₀ .tc) α} {Q : α → sProp 𝕄} :
    iprop((lcb c) ↦{fullShare} Bf m c)
      ⊢ iprop((((lcb c) ↦{fullShare} Bf m c) -∗ wp frame (wpE (defs₀ (F := F)) 𝒱₀ (c : Thread nD τ) none) Set.univ (k (brow m c p h₀)) Q)
        -∗ wp frame (wpE (defs₀ (F := F)) 𝒱₀ (c : Thread nD τ) none) Set.univ (.op (.load cbM (Rect.unit (s := S8x64x256) ![p, 0, 0] S1x64x256.size h₀).toLoadRect hl) k) Q) :=
  wp_load 𝒱₀ (c : Thread nD τ) none Set.univ (m := cbM) (Finset.subset_univ _)
/-- Loading the output weights gives the staged weights. -/
theorem read_wo (c : Dev nD) {hl} {α : Type}
    {k : (S256x512.Idx → Elt F .f32) → Prog (TpuEff nD τ sig (Elt F) Λ₀ .tc) α} {Q : α → sProp 𝕄} :
    iprop(((c : Thread nD τ).loc cc0_stg4_0) ↦{fullShare} wos m c)
      ⊢ iprop(((((c : Thread nD τ).loc cc0_stg4_0) ↦{fullShare} wos m c) -∗ wp frame (wpE (defs₀ (F := F)) 𝒱₀ (c : Thread nD τ) none) Set.univ (k (wor m c)) Q)
        -∗ wp frame (wpE (defs₀ (F := F)) 𝒱₀ (c : Thread nD τ) none) Set.univ (.op (.load woM (Rect.unit (s := S256x512) ![0, 0] S256x512.size inb_S256x512_S256x512_0_0).toLoadRect hl) k) Q) :=
  wp_load 𝒱₀ (c : Thread nD τ) none Set.univ (m := woM) (Finset.subset_univ _)

/-- Storing the context over the whole buffer leaves exactly the context in it. -/
theorem ctx_whole (c : Dev nD) (h : ∀ a, (![0, 0, 0] : Fin 3 → ℕ) a + S8x64x256.size a ≤ S8x64x256.size a) (f : CT (F := F) cc0_scratch2) :
    (ctM.access (Rect.unit (s := S8x64x256) ![0, 0, 0] S8x64x256.size h)).write (Elt F) f (Cf m c) Finset.univ = Cf m c :=
  Memref.write_access_unit_zero_univ (Elt F) cc0_scratch2 (off := ![0, 0, 0]) (funext fun a => by fin_cases a <;> rfl) h f (Cf m c)

/-- After that store the device owns its context buffer at the context. -/
theorem ctx_own (c : Dev nD) (h : ∀ a, (![0, 0, 0] : Fin 3 → ℕ) a + S8x64x256.size a ≤ S8x64x256.size a) (f : CT (F := F) cc0_scratch2) :
    (((ctM.access (Rect.unit (s := S8x64x256) ![0, 0, 0] S8x64x256.size h)).loc (c : Thread nD τ)) ↦{fullShare}
      (ctM.access (Rect.unit (s := S8x64x256) ![0, 0, 0] S8x64x256.size h)).write (Elt F) f (Cf m c) Finset.univ : sProp 𝕄) ⊢ ((lct c) ↦{fullShare} Cf m c) :=
  Entails.of_eq (congrArg (fun g : CT (F := F) cc0_scratch2 => (((lct c) ↦{fullShare} g) : sProp 𝕄)) (ctx_whole m c h f))

/-- The context stored whole. -/
theorem put_ctx (c : Dev nD) {w : S8x64x256.Idx → Elt F .bf16} (hw : w = Cf m c) {h : ∀ a, (![0, 0, 0] : Fin 3 → ℕ) a + S8x64x256.size a ≤ S8x64x256.size a} {hl hx hm} {α : Type}
    {k : PUnit → Prog (TpuEff nD τ sig (Elt F) Λ₀ .tc) α} {Q : α → sProp 𝕄} :
    iprop(∃ f : CT (F := F) cc0_scratch2, (lct c) ↦{fullShare} f)
      ⊢ iprop((((lct c) ↦{fullShare} Cf m c) -∗ wp frame (wpE (defs₀ (F := F)) 𝒱₀ (c : Thread nD τ) none) Set.univ (k ⟨⟩) Q)
        -∗ wp frame (wpE (defs₀ (F := F)) 𝒱₀ (c : Thread nD τ) none) Set.univ (.op (.load ctM (Rect.unit (s := S8x64x256) ![0, 0, 0] S8x64x256.size h).toLoadRect hl) fun _ =>
          .op (.store ctM (Rect.unit (s := S8x64x256) ![0, 0, 0] S8x64x256.size h) w Finset.univ hx hm) k) Q) := by
  subst hw
  iintro ⟨%f, H⟩ Hk
  iapply (wp_load 𝒱₀ (c : Thread nD τ) none Set.univ (m := ctM) (Finset.subset_univ _)) $$ H
  iintro H
  iapply (wp_store 𝒱₀ (c : Thread nD τ) none Set.univ (m := ctM) (r := Rect.unit (s := S8x64x256) ![0, 0, 0] S8x64x256.size h) (Mk := Finset.univ) (Finset.subset_univ _)) $$ H
  iintro H
  iapply Hk
  iapply (ctx_own m c h f) $$ H

/-- The two batches stored make the result. -/
theorem outs_eq (c : Dev nD) (f : CT (F := F) cc0_stg5_0) :
    (oM.access (Rect.unit (s := S2x256x512) ![1, 0, 0] S1x256x512.size inb_S2x256x512_S1x256x512_1_0_0)).write (Elt F)
      ((oM.access (Rect.unit (s := S2x256x512) ![0, 0, 0] S1x256x512.size inb_S2x256x512_S1x256x512_0_0_0)).write (Elt F) f (out0 m c) Finset.univ) (out1 m c) Finset.univ
      = outF m c := by
  funext i
  have hs : ∀ (b : ℕ) (h), (oM.access (Rect.unit (s := S2x256x512) ![b, 0, 0] S1x256x512.size h)).set = (Rect.unit (s := S2x256x512) ![b, 0, 0] S1x256x512.size h).set :=
    fun b h => View.set_slice_whole cc0_stg5_0 _
  have hm : ∀ (b : ℕ) (h), (i 0).val = b → i ∈ (oM.access (Rect.unit (s := S2x256x512) ![b, 0, 0] S1x256x512.size h)).set := fun b h hb => by
    rw [hs, Rect.mem_set_unit]
    intro a
    fin_cases a
    · show b ≤ (i 0).val ∧ (i 0).val < b + 1
      omega
    · exact ⟨Nat.zero_le _, (Nat.zero_add _).symm ▸ (i 1).2⟩
    · exact ⟨Nat.zero_le _, (Nat.zero_add _).symm ▸ (i 2).2⟩
  have hn : ∀ (b : ℕ) (h), (i 0).val ≠ b → i ∉ (oM.access (Rect.unit (s := S2x256x512) ![b, 0, 0] S1x256x512.size h)).set := fun b h hb hi => by
    rw [hs, Rect.mem_set_unit] at hi
    have := hi 0
    have h1 : S1x256x512.size 0 = 1 := rfl
    have h2 : (![b, 0, 0] : Fin 3 → ℕ) 0 = b := rfl
    rw [h1, h2] at this
    omega
  have hat : ∀ (b : ℕ) (h) (y : S1x256x512.Idx) (g : CT (F := F) cc0_stg5_0) (w : FVec F S1x256x512 .f32),
      (oM.access (Rect.unit (s := S2x256x512) ![b, 0, 0] S1x256x512.size h)).write (Elt F) g w Finset.univ
        ((oM.access (Rect.unit (s := S2x256x512) ![b, 0, 0] S1x256x512.size h)).emb y)
        = w (inBatch ((oM.access (Rect.unit (s := S2x256x512) ![b, 0, 0] S1x256x512.size h)).emb y)) := fun b h y g w => by
    rw [View.write_emb_of_mem _ _ (Finset.mem_univ y)]
    refine congrArg w (funext fun a => ?_)
    fin_cases a
    · exact Subsingleton.elim (α := Fin 1) _ _
    · refine Fin.ext ?_
      show (y 1).val = 0 + 1 * (y 1).val
      omega
    · refine Fin.ext ?_
      show (y 2).val = 0 + 1 * (y 2).val
      omega
  by_cases h0 : (i 0).val = 0
  · rw [View.write_of_not_mem _ _ _ (fun hi => hn 1 inb_S2x256x512_S1x256x512_1_0_0 (by omega) hi)]
    obtain ⟨y, -, e⟩ := Finset.mem_map.mp (hm 0 inb_S2x256x512_S1x256x512_0_0_0 h0)
    have hr : outF m c i = out0 m c (inBatch i) := if_pos h0
    rw [hr, ← e]
    exact hat 0 _ y f _
  · have h1 : (i 0).val = 1 := by
      have : (i 0).val < 2 := (i 0).2
      omega
    obtain ⟨y, -, e⟩ := Finset.mem_map.mp (hm 1 inb_S2x256x512_S1x256x512_1_0_0 h1)
    have hr : outF m c i = out1 m c (inBatch i) := if_neg h0
    rw [hr, ← e]
    exact hat 1 _ y _ _

/-- After both batches are stored the device owns its result buffer at the result. -/
theorem outs_own (c : Dev nD) (f : CT (F := F) cc0_stg5_0) {w0 w1 : FVec F S1x256x512 .f32} (h0 : w0 = out0 m c) (h1 : w1 = out1 m c) :
    (((oM.access (Rect.unit (s := S2x256x512) ![1, 0, 0] S1x256x512.size inb_S2x256x512_S1x256x512_1_0_0)).loc (c : Thread nD τ)) ↦{fullShare}
      (oM.access (Rect.unit (s := S2x256x512) ![1, 0, 0] S1x256x512.size inb_S2x256x512_S1x256x512_1_0_0)).write (Elt F)
      ((oM.access (Rect.unit (s := S2x256x512) ![0, 0, 0] S1x256x512.size inb_S2x256x512_S1x256x512_0_0_0)).write (Elt F) f w0 Finset.univ) w1 Finset.univ : sProp 𝕄)
      ⊢ (((c : Thread nD τ).loc cc0_stg5_0) ↦{fullShare} outF m c) := by
  subst h0; subst h1
  exact Entails.of_eq (congrArg (fun g : CT (F := F) cc0_stg5_0 => ((((c : Thread nD τ).loc cc0_stg5_0) ↦{fullShare} g) : sProp 𝕄)) (outs_eq m c f))

/-- All rows of a landing buffer, the device's own among them, make the buffer. -/
theorem join_w (c : Dev nD) : iprop((bigSep (Finset.univ.erase c) fun p => pay m kqr.val c p) ∗ wP c c.val (Wf m c)) ⊢ iprop((lw c) ↦{fullShare} Wf m c) := by
  refine BIBase.Entails.trans ?_ (Entails.of_eq (rows_w c (Wf m c)))
  rw [bErase (Finset.mem_univ c) (fun d : Dev nD => wP c d.val (Wf m c))]
  iintro ⟨Hr, Ho⟩
  isplitl [Ho]; · iexact Ho
  iexact Hr
/-- The same for the second landing buffer. -/
theorem join_cb (c : Dev nD) : iprop((bigSep (Finset.univ.erase c) fun p => pay m kcr.val c p) ∗ cbP c c.val (Bf m c)) ⊢ iprop((lcb c) ↦{fullShare} Bf m c) := by
  refine BIBase.Entails.trans ?_ (Entails.of_eq (rows_cb c (Bf m c)))
  rw [bErase (Finset.mem_univ c) (fun d : Dev nD => cbP c d.val (Bf m c))]
  iintro ⟨Hr, Ho⟩
  isplitl [Ho]; · iexact Ho
  iexact Hr

/-- A device that owes nothing may wait. -/
theorem mayWait_none (c : Dev nD) (s : SemLoc sig) : (levAts L lv : sProp 𝕄) ⊢ MayWait (c : Thread nD τ) s () 0 := by
  rw [MayWait_zero]; iintro -; iempintro

/-! ## The parts -/

/-- The first exchange, towards devices 0 to 3. -/
theorem run_part8 (K : Dev nD × Fin 19 → ℕ) (v183 : BitVec 32) (c : Dev nD) {α : Type} {k : _ → Prog (TpuEff nD τ sig (Elt F) Λ₀ .tc) α} {Q : α → sProp 𝕄} :
    iprop(records m K ∗ qSt m c (QS c 0) ∗ qOwn m c (OS 0))
      ⊢ iprop(((qSt m c (QS c 4) ∗ qOwn m c (OS 4)) -∗ wp frame (wpE (defs₀ (F := F)) 𝒱₀ (c : Thread nD τ) none) Set.univ (k ⟨⟩) Q)
        -∗ wp frame (wpE (defs₀ (F := F)) 𝒱₀ (c : Thread nD τ) none) Set.univ (k0_part8 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 c (v2w c) v183 >>= k) Q) := by
  rw [k0_part8_eq_skeleton]; unfold k0_part8_skel
  iintro ⟨#HR, H, HO⟩ Hk
  iapply (guard_sendQ m K c 0 (by decide) (by revert c; decide +kernel) (by rfl) (k0_off1_eq c) (by intro h; exact Fin.ext k0_dev8_eq) (by rfl) (by rfl)) $$ [H]
  · isplitr; · iexact HR
    iexact H
  iintro H
  iapply (guard_copyQ m c 0 (own_iff c 0) (by rfl) copyQ_id) $$ HO; iintro HO
  iapply (guard_sendQ m K c 1 (by decide) (by revert c; decide +kernel) (by rfl) (k0_off2_eq c) (by intro h; exact Fin.ext k0_dev9_eq) (by rfl) (by rfl)) $$ [H]
  · isplitr; · iexact HR
    iexact H
  iintro H
  iapply (guard_copyQ m c 1 (own_iff c 1) (by rfl) copyQ_id) $$ HO; iintro HO
  iapply (guard_sendQ m K c 2 (by decide) (by revert c; decide +kernel) (by rfl) (k0_off3_eq c) (by intro h; exact Fin.ext k0_dev10_eq) (by rfl) (by rfl)) $$ [H]
  · isplitr; · iexact HR
    iexact H
  iintro H
  iapply (guard_copyQ m c 2 (own_iff c 2) (by rfl) copyQ_id) $$ HO; iintro HO
  iapply (guard_sendQ m K c 3 (by decide) (by revert c; decide +kernel) (by rfl) (k0_off4_eq c) (by intro h; exact Fin.ext k0_dev11_eq) (by rfl) (by rfl)) $$ [H]
  · isplitr; · iexact HR
    iexact H
  iintro H
  iapply (guard_copyQ m c 3 (own_iff c 3) (by rfl) copyQ_id) $$ HO; iintro HO
  simp only [Prog.pure_eq_ret, Prog.bind_ret]
  iapply Hk
  isplitl [H]; · iexact H
  iexact HO

/-- The first exchange, towards devices 4 to 7. -/
theorem run_part9 (K : Dev nD × Fin 19 → ℕ) (c : Dev nD) {α : Type} {k : _ → Prog (TpuEff nD τ sig (Elt F) Λ₀ .tc) α} {Q : α → sProp 𝕄} :
    iprop(records m K ∗ qSt m c (QS c 4) ∗ qOwn m c (OS 4))
      ⊢ iprop(((qSt m c (QS c 8) ∗ qOwn m c (OS 8)) -∗ wp frame (wpE (defs₀ (F := F)) 𝒱₀ (c : Thread nD τ) none) Set.univ (k ⟨⟩) Q)
        -∗ wp frame (wpE (defs₀ (F := F)) 𝒱₀ (c : Thread nD τ) none) Set.univ (k0_part9 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 c (v2w c) >>= k) Q) := by
  rw [k0_part9_eq_skeleton]; unfold k0_part9_skel
  iintro ⟨#HR, H, HO⟩ Hk
  iapply (guard_sendQ m K c 4 (by decide) (by revert c; decide +kernel) (by rfl) (k0_off5_eq c) (by intro h; exact Fin.ext k0_dev12_eq) (by rfl) (by rfl)) $$ [H]
  · isplitr; · iexact HR
    iexact H
  iintro H
  iapply (guard_copyQ m c 4 (own_iff c 4) (by rfl) copyQ_id) $$ HO; iintro HO
  iapply (guard_sendQ m K c 5 (by decide) (by revert c; decide +kernel) (by rfl) (k0_off6_eq c) (by intro h; exact Fin.ext k0_dev13_eq) (by rfl) (by rfl)) $$ [H]
  · isplitr; · iexact HR
    iexact H
  iintro H
  iapply (guard_copyQ m c 5 (own_iff c 5) (by rfl) copyQ_id) $$ HO; iintro HO
  iapply (guard_sendQ m K c 6 (by decide) (by revert c; decide +kernel) (by rfl) (k0_off7_eq c) (by intro h; exact Fin.ext k0_dev14_eq) (by rfl) (by rfl)) $$ [H]
  · isplitr; · iexact HR
    iexact H
  iintro H
  iapply (guard_copyQ m c 6 (own_iff c 6) (by rfl) copyQ_id) $$ HO; iintro HO
  iapply (guard_sendQ m K c 7 (by decide) (by revert c; decide +kernel) (by rfl) (k0_off8_eq c) (by intro h; exact Fin.ext k0_dev15_eq) (by rfl) (by rfl)) $$ [H]
  · isplitr; · iexact HR
    iexact H
  iintro H
  iapply (guard_copyQ m c 7 (own_iff c 7) (by rfl) copyQ_id) $$ HO; iintro HO
  simp only [Prog.pure_eq_ret, Prog.bind_ret]
  iapply Hk
  isplitl [H]; · iexact H
  iexact HO

/-- Three arrivals of the first exchange. -/
theorem run_part10 (K : Dev nD × Fin 19 → ℕ) (v2 : BitVec 32) (c : Dev nD) {α : Type} {k : _ → Prog (TpuEff nD τ sig (Elt F) Λ₀ .tc) α} {Q : α → sProp 𝕄} :
    iprop((records m K ∗ levAts L lv) ∗ rcvSt m c kqr N1 (OC (Finset.univ.erase c)) 0)
      ⊢ iprop((rcvSt m c kqr N1 (OC (Finset.univ.erase c)) 3 -∗ wp frame (wpE (defs₀ (F := F)) 𝒱₀ (c : Thread nD τ) none) Set.univ (k ⟨⟩) Q)
        -∗ wp frame (wpE (defs₀ (F := F)) 𝒱₀ (c : Thread nD τ) none) Set.univ (k0_part10 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 v2 >>= k) Q) := by
  rw [k0_part10_eq_skeleton]; unfold k0_part10_skel
  simp only [semSignalWord, semWaitWord, Prog.lift, Prog.bind_op, Prog.bind_ret, Prog.pure_eq_ret, Prog.bind_assoc, wp_deviceId]
  iintro ⟨⟨#HR, #HL⟩, H⟩ Hk
  iapply (step_arrive m K c kqr N1 (by rfl) (by rfl) (OC (Finset.univ.erase c)) (mayWait_qr c _) 0 (by decide) (by rfl) (by rfl)) $$ [H]
  · isplitr
    · isplitr; · iexact HR
      iexact HL
    iexact H
  iintro H
  iapply (step_arrive m K c kqr N1 (by rfl) (by rfl) (OC (Finset.univ.erase c)) (mayWait_qr c _) 1 (by decide) (by rfl) (by rfl)) $$ [H]
  · isplitr
    · isplitr; · iexact HR
      iexact HL
    iexact H
  iintro H
  iapply (step_arrive m K c kqr N1 (by rfl) (by rfl) (OC (Finset.univ.erase c)) (mayWait_qr c _) 2 (by decide) (by rfl) (by rfl)) $$ [H]
  · isplitr
    · isplitr; · iexact HR
      iexact HL
    iexact H
  iintro H
  iapply Hk
  iexact H

/-- The other four, and the queries read. -/
theorem run_part11 (K : Dev nD × Fin 19 → ℕ) (v2 : BitVec 32) (c : Dev nD) {α : Type} {k : _ → Prog (TpuEff nD τ sig (Elt F) Λ₀ .tc) α} {Q : α → sProp 𝕄} :
    iprop((records m K ∗ levAts L lv) ∗ rcvSt m c kqr N1 (OC (Finset.univ.erase c)) 3 ∗ wP c c.val (Wf m c))
      ⊢ iprop(((((lw c) ↦{fullShare} Wf m c) ∗ atPos ER (kcell (c, kqr)) 1 ∅ 0 ∗ ∃ W, owes (c : Thread nD τ) (OC (Finset.univ.erase c)) W) -∗ wp frame (wpE (defs₀ (F := F)) 𝒱₀ (c : Thread nD τ) none) Set.univ (k (part m c 0)) Q)
        -∗ wp frame (wpE (defs₀ (F := F)) 𝒱₀ (c : Thread nD τ) none) Set.univ (k0_part11 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 v2 >>= k) Q) := by
  rw [k0_part11_eq_skeleton]; unfold k0_part11_skel
  simp only [semSignalWord, semWaitWord, Prog.lift, Prog.bind_op, Prog.bind_ret, Prog.pure_eq_ret, Prog.bind_assoc, wp_deviceId]
  iintro ⟨⟨#HR, #HL⟩, H, Ho⟩ Hk
  iapply (step_arrive m K c kqr N1 (by rfl) (by rfl) (OC (Finset.univ.erase c)) (mayWait_qr c _) 3 (by decide) (by rfl) (by rfl)) $$ [H]
  · isplitr
    · isplitr; · iexact HR
      iexact HL
    iexact H
  iintro H
  iapply (step_arrive m K c kqr N1 (by rfl) (by rfl) (OC (Finset.univ.erase c)) (mayWait_qr c _) 4 (by decide) (by rfl) (by rfl)) $$ [H]
  · isplitr
    · isplitr; · iexact HR
      iexact HL
    iexact H
  iintro H
  iapply (step_arrive m K c kqr N1 (by rfl) (by rfl) (OC (Finset.univ.erase c)) (mayWait_qr c _) 5 (by decide) (by rfl) (by rfl)) $$ [H]
  · isplitr
    · isplitr; · iexact HR
      iexact HL
    iexact H
  iintro H
  iapply (step_arrived m K c kqr N1 (by rfl) (by rfl) (OC (Finset.univ.erase c)) (mayWait_qr c _) (by rfl) (by rfl)) $$ [H]
  · isplitr
    · isplitr; · iexact HR
      iexact HL
    iexact H
  iintro H
  icases H with ⟨Hp, Hat, HO⟩
  ihave Hw := (join_w m c) $$ [Hp Ho]
  · isplitl [Hp]; · iexact Hp
    iexact Ho
  iapply (read_part m c 0 (by rfl)) $$ Hw; iintro Hw
  iapply Hk
  isplitl [Hw]; · iexact Hw
  isplitl [Hat]; · iexact Hat
  iexact HO

/-- The keys and values read. -/
theorem run_part12 (c : Dev nD) {α : Type} {k : _ → Prog (TpuEff nD τ sig (Elt F) Λ₀ .tc) α} {Q : α → sProp 𝕄} :
    iprop((lw c) ↦{fullShare} Wf m c)
      ⊢ iprop((((lw c) ↦{fullShare} Wf m c) -∗ wp frame (wpE (defs₀ (F := F)) 𝒱₀ (c : Thread nD τ) none) Set.univ (k ⟨(k0_pay38 (part m c 0)), (k0_pay39 (part m c 1)), (k0_pay40 (part m c 2)), (k0_pay41 (part m c 0) (part m c 1) (part m c 2)), (k0_pay42 (part m c 0) (part m c 1) (part m c 2))⟩) Q)
        -∗ wp frame (wpE (defs₀ (F := F)) 𝒱₀ (c : Thread nD τ) none) Set.univ (k0_part12 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 (part m c 0) >>= k) Q) := by
  rw [k0_part12_eq_skeleton]; unfold k0_part12_skel
  simp only [semSignalWord, semWaitWord, Prog.lift, Prog.bind_op, Prog.bind_ret, Prog.pure_eq_ret, Prog.bind_assoc, wp_deviceId]
  iintro H Hk
  iapply (read_part m c 1 (by rfl)) $$ H; iintro H
  iapply (read_part m c 2 (by rfl)) $$ H; iintro H
  iapply Hk
  iexact H

/-- The context stored. -/
theorem run_part13 (v2 : BitVec 32) (c : Dev nD) {α : Type} {k : _ → Prog (TpuEff nD τ sig (Elt F) Λ₀ .tc) α} {Q : α → sProp 𝕄} :
    iprop(∃ f : CT (F := F) cc0_scratch2, (lct c) ↦{fullShare} f)
      ⊢ iprop((((lct c) ↦{fullShare} Cf m c) -∗ wp frame (wpE (defs₀ (F := F)) 𝒱₀ (c : Thread nD τ) none) Set.univ (k ⟨Scalar.extui (Scalar.cmpi .ne v2 0#32), 0#32⟩) Q)
        -∗ wp frame (wpE (defs₀ (F := F)) 𝒱₀ (c : Thread nD τ) none) Set.univ (k0_part13 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 v2 (k0_pay38 (part m c 0)) (k0_pay39 (part m c 1)) (k0_pay40 (part m c 2)) (k0_pay41 (part m c 0) (part m c 1) (part m c 2)) (k0_pay42 (part m c 0) (part m c 1) (part m c 2)) >>= k) Q) := by
  rw [k0_part13_eq_skeleton]; unfold k0_part13_skel
  simp only [semSignalWord, semWaitWord, Prog.lift, Prog.bind_op, Prog.bind_ret, Prog.pure_eq_ret, Prog.bind_assoc, wp_deviceId]
  iintro H Hk
  iapply (put_ctx m c (by rfl)) $$ H; iintro H
  iapply Hk
  iexact H

/-- The second exchange. -/
theorem run_part14 (K : Dev nD × Fin 19 → ℕ) (v2 v356 w0 : BitVec 32) (c : Dev nD) {α : Type} {k : _ → Prog (TpuEff nD τ sig (Elt F) Λ₀ .tc) α} {Q : α → sProp 𝕄} :
    iprop(records m K ∗ cSt m c (QS c 0))
      ⊢ iprop((cSt m c (QS c 8) -∗ wp frame (wpE (defs₀ (F := F)) 𝒱₀ (c : Thread nD τ) none) Set.univ (k (Scalar.cmpi .eq v2 0#32)) Q)
        -∗ wp frame (wpE (defs₀ (F := F)) 𝒱₀ (c : Thread nD τ) none) Set.univ (k0_part14 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 c v2 v356 w0 >>= k) Q) := by
  rw [k0_part14_eq_skeleton]; unfold k0_part14_skel
  iintro ⟨#HR, H⟩ Hk
  iapply (guard_sendC m K c 0 (by decide) (by revert c; decide +kernel) (by rfl) (k0_off9_eq c) (by intro h; exact Fin.ext k0_dev16_eq) (by rfl) (by rfl)) $$ [H]
  · isplitr; · iexact HR
    iexact H
  iintro H
  iapply (guard_sendC m K c 1 (by decide) (by revert c; decide +kernel) (by rfl) (k0_off10_eq c) (by intro h; exact Fin.ext k0_dev17_eq) (by rfl) (by rfl)) $$ [H]
  · isplitr; · iexact HR
    iexact H
  iintro H
  iapply (guard_sendC m K c 2 (by decide) (by revert c; decide +kernel) (by rfl) (k0_off11_eq c) (by intro h; exact Fin.ext k0_dev18_eq) (by rfl) (by rfl)) $$ [H]
  · isplitr; · iexact HR
    iexact H
  iintro H
  iapply (guard_sendC m K c 3 (by decide) (by revert c; decide +kernel) (by rfl) (k0_off12_eq c) (by intro h; exact Fin.ext k0_dev19_eq) (by rfl) (by rfl)) $$ [H]
  · isplitr; · iexact HR
    iexact H
  iintro H
  iapply (guard_sendC m K c 4 (by decide) (by revert c; decide +kernel) (by rfl) (k0_off13_eq c) (by intro h; exact Fin.ext k0_dev20_eq) (by rfl) (by rfl)) $$ [H]
  · isplitr; · iexact HR
    iexact H
  iintro H
  iapply (guard_sendC m K c 5 (by decide) (by revert c; decide +kernel) (by rfl) (k0_off14_eq c) (by intro h; exact Fin.ext k0_dev21_eq) (by rfl) (by rfl)) $$ [H]
  · isplitr; · iexact HR
    iexact H
  iintro H
  iapply (guard_sendC m K c 6 (by decide) (by revert c; decide +kernel) (by rfl) (k0_off15_eq c) (by intro h; exact Fin.ext k0_dev22_eq) (by rfl) (by rfl)) $$ [H]
  · isplitr; · iexact HR
    iexact H
  iintro H
  iapply (guard_sendC m K c 7 (by decide) (by revert c; decide +kernel) (by rfl) (k0_off16_eq c) (by intro h; exact Fin.ext k0_dev23_eq) (by rfl) (by rfl)) $$ [H]
  · isplitr; · iexact HR
    iexact H
  iintro H
  simp only [Prog.pure_eq_ret, Prog.bind_ret]
  iapply Hk
  iexact H

/-- Its own row copied, and the output weights read. -/
theorem run_part15 (c : Dev nD) {α : Type} {k : _ → Prog (TpuEff nD τ sig (Elt F) Λ₀ .tc) α} {Q : α → sProp 𝕄} :
    iprop(cOwn m c (OS 0) ∗ (((c : Thread nD τ).loc cc0_stg4_0) ↦{fullShare} wos m c))
      ⊢ iprop(((cOwn m c (OS 8) ∗ (((c : Thread nD τ).loc cc0_stg4_0) ↦{fullShare} wos m c)) -∗ wp frame (wpE (defs₀ (F := F)) 𝒱₀ (c : Thread nD τ) none) Set.univ (k (k0_pay52 (wor m c))) Q)
        -∗ wp frame (wpE (defs₀ (F := F)) 𝒱₀ (c : Thread nD τ) none) Set.univ (k0_part15 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 (v2w c) (Scalar.cmpi .eq (v2w c) 0#32) >>= k) Q) := by
  rw [k0_part15_eq_skeleton]; unfold k0_part15_skel
  iintro ⟨HO, H⟩ Hk
  iapply (guard_copyC m c 0 (own_iff c 0) (by rfl) copyC_id) $$ HO; iintro HO
  iapply (guard_copyC m c 1 (own_iff c 1) (by rfl) copyC_id) $$ HO; iintro HO
  iapply (guard_copyC m c 2 (own_iff c 2) (by rfl) copyC_id) $$ HO; iintro HO
  iapply (guard_copyC m c 3 (own_iff c 3) (by rfl) copyC_id) $$ HO; iintro HO
  iapply (guard_copyC m c 4 (own_iff c 4) (by rfl) copyC_id) $$ HO; iintro HO
  iapply (guard_copyC m c 5 (own_iff c 5) (by rfl) copyC_id) $$ HO; iintro HO
  iapply (guard_copyC m c 6 (own_iff c 6) (by rfl) copyC_id) $$ HO; iintro HO
  iapply (guard_copyC m c 7 (own_iff c 7) (by rfl) copyC_id) $$ HO; iintro HO
  simp only [semSignalWord, semWaitWord, Prog.lift, Prog.bind_op, Prog.bind_ret, Prog.pure_eq_ret, Prog.bind_assoc, wp_deviceId]
  iapply (read_wo m c) $$ H; iintro H
  iapply Hk
  isplitl [HO]; · iexact HO
  iexact H

/-- Four arrivals of the second exchange. -/
theorem run_part16 (K : Dev nD × Fin 19 → ℕ) (v2 : BitVec 32) (c : Dev nD) {α : Type} {k : _ → Prog (TpuEff nD τ sig (Elt F) Λ₀ .tc) α} {Q : α → sProp 𝕄} :
    iprop((records m K ∗ levAts L lv) ∗ rcvSt m c kcr N2 0 0)
      ⊢ iprop((rcvSt m c kcr N2 0 4 -∗ wp frame (wpE (defs₀ (F := F)) 𝒱₀ (c : Thread nD τ) none) Set.univ (k (Scalar.muli v2 1#32)) Q)
        -∗ wp frame (wpE (defs₀ (F := F)) 𝒱₀ (c : Thread nD τ) none) Set.univ (k0_part16 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 v2 >>= k) Q) := by
  rw [k0_part16_eq_skeleton]; unfold k0_part16_skel
  simp only [semSignalWord, semWaitWord, Prog.lift, Prog.bind_op, Prog.bind_ret, Prog.pure_eq_ret, Prog.bind_assoc, wp_deviceId]
  iintro ⟨⟨#HR, #HL⟩, H⟩ Hk
  iapply (step_arrive m K c kcr N2 (by rfl) (by rfl) 0 (mayWait_none c (csem kcr)) 0 (by decide) (by rfl) (by rfl)) $$ [H]
  · isplitr
    · isplitr; · iexact HR
      iexact HL
    iexact H
  iintro H
  iapply (step_arrive m K c kcr N2 (by rfl) (by rfl) 0 (mayWait_none c (csem kcr)) 1 (by decide) (by rfl) (by rfl)) $$ [H]
  · isplitr
    · isplitr; · iexact HR
      iexact HL
    iexact H
  iintro H
  iapply (step_arrive m K c kcr N2 (by rfl) (by rfl) 0 (mayWait_none c (csem kcr)) 2 (by decide) (by rfl) (by rfl)) $$ [H]
  · isplitr
    · isplitr; · iexact HR
      iexact HL
    iexact H
  iintro H
  iapply (step_arrive m K c kcr N2 (by rfl) (by rfl) 0 (mayWait_none c (csem kcr)) 3 (by decide) (by rfl) (by rfl)) $$ [H]
  · isplitr
    · isplitr; · iexact HR
      iexact HL
    iexact H
  iintro H
  iapply Hk
  iexact H

/-- The other three, and three rows read. -/
theorem run_part17 (K : Dev nD × Fin 19 → ℕ) (v2 v430 : BitVec 32) (c : Dev nD) {α : Type} {k : _ → Prog (TpuEff nD τ sig (Elt F) Λ₀ .tc) α} {Q : α → sProp 𝕄} :
    iprop((records m K ∗ levAts L lv) ∗ rcvSt m c kcr N2 0 4 ∗ cbP c c.val (Bf m c))
      ⊢ iprop(((((lcb c) ↦{fullShare} Bf m c) ∗ atPos ER (kcell (c, kcr)) 1 ∅ 0 ∗ ∃ W, owes (c : Thread nD τ) 0 W) -∗ wp frame (wpE (defs₀ (F := F)) 𝒱₀ (c : Thread nD τ) none) Set.univ (k ⟨(k0_pay53 (brow m c 0 inb_S8x64x256_S1x64x256_0_0_0)), (k0_pay54 (brow m c 1 inb_S8x64x256_S1x64x256_1_0_0)), (k0_pay55 (brow m c 2 inb_S8x64x256_S1x64x256_2_0_0))⟩) Q)
        -∗ wp frame (wpE (defs₀ (F := F)) 𝒱₀ (c : Thread nD τ) none) Set.univ (k0_part17 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 v2 v430 >>= k) Q) := by
  rw [k0_part17_eq_skeleton]; unfold k0_part17_skel
  simp only [semSignalWord, semWaitWord, Prog.lift, Prog.bind_op, Prog.bind_ret, Prog.pure_eq_ret, Prog.bind_assoc, wp_deviceId]
  iintro ⟨⟨#HR, #HL⟩, H, Ho⟩ Hk
  iapply (step_arrive m K c kcr N2 (by rfl) (by rfl) 0 (mayWait_none c (csem kcr)) 4 (by decide) (by rfl) (by rfl)) $$ [H]
  · isplitr
    · isplitr; · iexact HR
      iexact HL
    iexact H
  iintro H
  iapply (step_arrive m K c kcr N2 (by rfl) (by rfl) 0 (mayWait_none c (csem kcr)) 5 (by decide) (by rfl) (by rfl)) $$ [H]
  · isplitr
    · isplitr; · iexact HR
      iexact HL
    iexact H
  iintro H
  iapply (step_arrived m K c kcr N2 (by rfl) (by rfl) 0 (mayWait_none c (csem kcr)) (by rfl) (by rfl)) $$ [H]
  · isplitr
    · isplitr; · iexact HR
      iexact HL
    iexact H
  iintro H
  icases H with ⟨Hp, Hat, HO⟩
  ihave Hw := (join_cb m c) $$ [Hp Ho]
  · isplitl [Hp]; · iexact Hp
    iexact Ho
  iapply (read_row m c 0) $$ Hw; iintro Hw
  iapply (read_row m c 1) $$ Hw; iintro Hw
  iapply (read_row m c 2) $$ Hw; iintro Hw
  iapply Hk
  isplitl [Hw]; · iexact Hw
  isplitl [Hat]; · iexact Hat
  iexact HO

/-- The output stored. -/
theorem run_part18 (K : Dev nD × Fin 19 → ℕ) (v2 : BitVec 32) (c : Dev nD) {α : Type} {k : _ → Prog (TpuEff nD τ sig (Elt F) Λ₀ .tc) α} {Q : α → sProp 𝕄} :
    iprop(records m K ∗ ((lcb c) ↦{fullShare} Bf m c) ∗ (∃ f : CT (F := F) cc0_stg5_0, ((c : Thread nD τ).loc cc0_stg5_0) ↦{fullShare} f) ∗ fSt m c (QS c 0))
      ⊢ iprop(((((lcb c) ↦{fullShare} Bf m c) ∗ (((c : Thread nD τ).loc cc0_stg5_0) ↦{fullShare} outF m c) ∗ fSt m c (QS c 1)) -∗ wp frame (wpE (defs₀ (F := F)) 𝒱₀ (c : Thread nD τ) none) Set.univ (k (Scalar.extui (Scalar.cmpi .ne v2 1#32))) Q)
        -∗ wp frame (wpE (defs₀ (F := F)) 𝒱₀ (c : Thread nD τ) none) Set.univ (k0_part18 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 c v2 (k0_pay52 (wor m c)) (k0_pay53 (brow m c 0 inb_S8x64x256_S1x64x256_0_0_0)) (k0_pay54 (brow m c 1 inb_S8x64x256_S1x64x256_1_0_0)) (k0_pay55 (brow m c 2 inb_S8x64x256_S1x64x256_2_0_0)) >>= k) Q) := by
  rw [k0_part18_eq_skeleton]; unfold k0_part18_skel
  simp only [semSignalWord, semWaitWord, Prog.lift, Prog.bind_op, Prog.bind_ret, Prog.pure_eq_ret, Prog.bind_assoc, wp_deviceId]
  iintro ⟨#HR, Hw, ⟨%f, Ho⟩, H⟩ Hk
  iapply (read_row m c 3) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := Rect.unit (s := S2x256x512) ![0, 0, 0] S1x256x512.size inb_S2x256x512_S1x256x512_0_0_0) (Mk := Finset.univ) (Finset.subset_univ _)) $$ Ho; iintro Ho
  iapply (read_row m c 4) $$ Hw; iintro Hw
  iapply (read_row m c 5) $$ Hw; iintro Hw
  iapply (read_row m c 6) $$ Hw; iintro Hw
  iapply (read_row m c 7) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := Rect.unit (s := S2x256x512) ![1, 0, 0] S1x256x512.size inb_S2x256x512_S1x256x512_1_0_0) (Mk := Finset.univ) (Finset.subset_univ _)) $$ Ho; iintro Ho
  iapply (guard_sent m K c 0 (by decide) (by revert c; decide +kernel) (by rfl) (by rfl) (by rfl) (by rfl)) $$ [H]
  · isplitr; · iexact HR
    iexact H
  iintro H
  iapply Hk
  isplitl [Hw]; · iexact Hw
  isplitl [Ho]
  · iapply (outs_own m c f (by rfl) (by rfl)) $$ Ho
  iexact H

/-- The waits for what was sent. -/
theorem run_part19 (K : Dev nD × Fin 19 → ℕ) (v2 v478 : BitVec 32) (c : Dev nD) {α : Type} {k : _ → Prog (TpuEff nD τ sig (Elt F) Λ₀ .tc) α} {Q : α → sProp 𝕄} :
    iprop(records m K ∗ fSt m c (QS c 1))
      ⊢ iprop((fSt m c (QS c 7) -∗ wp frame (wpE (defs₀ (F := F)) 𝒱₀ (c : Thread nD τ) none) Set.univ (k (Scalar.extui (Scalar.cmpi .ne v2 7#32))) Q)
        -∗ wp frame (wpE (defs₀ (F := F)) 𝒱₀ (c : Thread nD τ) none) Set.univ (k0_part19 (F := F) xM (Memref.isWhole_whole _) wqM (Memref.isWhole_whole _) kM (Memref.isWhole_whole _) vM (Memref.isWhole_whole _) woM (Memref.isWhole_whole _) oM (Memref.isWhole_whole _) stM (Memref.isWhole_whole _) wM (Memref.isWhole_whole _) ctM (Memref.isWhole_whole _) cbM (Memref.isWhole_whole _) cc0_scratch4 cc0_scratch5 cc0_scratch6 cc0_scratch7 c v2 v478 >>= k) Q) := by
  rw [k0_part19_eq_skeleton]; unfold k0_part19_skel
  iintro ⟨#HR, H⟩ Hk
  iapply (guard_sent m K c 1 (by decide) (by revert c; decide +kernel) (by rfl) (by rfl) (by rfl) (by rfl)) $$ [H]
  · isplitr; · iexact HR
    iexact H
  iintro H
  iapply (guard_sent m K c 2 (by decide) (by revert c; decide +kernel) (by rfl) (by rfl) (by rfl) (by rfl)) $$ [H]
  · isplitr; · iexact HR
    iexact H
  iintro H
  iapply (guard_sent m K c 3 (by decide) (by revert c; decide +kernel) (by rfl) (by rfl) (by rfl) (by rfl)) $$ [H]
  · isplitr; · iexact HR
    iexact H
  iintro H
  iapply (guard_sent m K c 4 (by decide) (by revert c; decide +kernel) (by rfl) (by rfl) (by rfl) (by rfl)) $$ [H]
  · isplitr; · iexact HR
    iexact H
  iintro H
  iapply (guard_sent m K c 5 (by decide) (by revert c; decide +kernel) (by rfl) (by rfl) (by rfl) (by rfl)) $$ [H]
  · isplitr; · iexact HR
    iexact H
  iintro H
  iapply (guard_sent m K c 6 (by decide) (by revert c; decide +kernel) (by rfl) (by rfl) (by rfl) (by rfl)) $$ [H]
  · isplitr; · iexact HR
    iexact H
  iintro H
  simp only [Prog.pure_eq_ret, Prog.bind_ret]
  iapply Hk
  iexact H

end Cert.KernelIdealProof

end
-- ==== Proof.Ends.lean ====
/-
How the resources a device starts with are dealt to the steps of the kernel, and how its semaphores are given back.
-/
module

public import proofs.«01_k».proof.Proof.Body3

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A family over nineteen cells: the barrier's, the two arrivals', and the two exchanges' sends by device. -/
theorem cells_split (Φ : Fin 19 → sProp 𝕄) :
    (bigSep Finset.univ Φ) ⊢ iprop(Φ kba ∗ Φ kqr ∗ Φ kcr ∗ (bigSep Finset.univ fun d : Dev nD => Φ (kqs d)) ∗ bigSep Finset.univ fun d : Dev nD => Φ (kcs d)) := by
  rw [bigSep_univ_eq_bigSepL [(0 : Fin 19), 1, 2, 3, 4, 5, 6, 7, 8, 9, 10, 11, 12, 13, 14, 15, 16, 17, 18] (by decide) (by decide) Φ,
    bigSep_univ_eq_bigSepL [(0 : Dev nD), 1, 2, 3, 4, 5, 6, 7] (by decide) (by decide) (fun d => Φ (kqs d)),
    bigSep_univ_eq_bigSepL [(0 : Dev nD), 1, 2, 3, 4, 5, 6, 7] (by decide) (by decide) (fun d => Φ (kcs d))]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18)
    ⊢ iprop(Φ 18 ∗ Φ 8 ∗ Φ 17 ∗ (Φ 0 ∗ Φ 1 ∗ Φ 2 ∗ Φ 3 ∗ Φ 4 ∗ Φ 5 ∗ Φ 6 ∗ Φ 7) ∗ (Φ 9 ∗ Φ 10 ∗ Φ 11 ∗ Φ 12 ∗ Φ 13 ∗ Φ 14 ∗ Φ 15 ∗ Φ 16))
  iintro ⟨H0, H1, H2, H3, H4, H5, H6, H7, H8, H9, H10, H11, H12, H13, H14, H15, H16, H17, H18⟩
  isplitl [H18]; · iexact H18
  isplitl [H8]; · iexact H8
  isplitl [H17]; · iexact H17
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  · isplitl [H9]; · iexact H9
    isplitl [H10]; · iexact H10
    isplitl [H11]; · iexact H11
    isplitl [H12]; · iexact H12
    isplitl [H13]; · iexact H13
    isplitl [H14]; · iexact H14
    isplitl [H15] <;> iassumption

/-- The same, put back together. -/
theorem cells_join (Φ : Fin 19 → sProp 𝕄) :
    iprop(Φ kba ∗ Φ kqr ∗ Φ kcr ∗ (bigSep Finset.univ fun d : Dev nD => Φ (kqs d)) ∗ bigSep Finset.univ fun d : Dev nD => Φ (kcs d)) ⊢ (bigSep Finset.univ Φ) := by
  rw [bigSep_univ_eq_bigSepL [(18 : Fin 19), 8, 17, 0, 1, 2, 3, 4, 5, 6, 7, 9, 10, 11, 12, 13, 14, 15, 16] (by decide) (by decide) Φ,
    bigSep_univ_eq_bigSepL [(0 : Dev nD), 1, 2, 3, 4, 5, 6, 7] (by decide) (by decide) (fun d => Φ (kqs d)),
    bigSep_univ_eq_bigSepL [(0 : Dev nD), 1, 2, 3, 4, 5, 6, 7] (by decide) (by decide) (fun d => Φ (kcs d))]
  show iprop(Φ 18 ∗ Φ 8 ∗ Φ 17 ∗ (Φ 0 ∗ Φ 1 ∗ Φ 2 ∗ Φ 3 ∗ Φ 4 ∗ Φ 5 ∗ Φ 6 ∗ Φ 7) ∗ (Φ 9 ∗ Φ 10 ∗ Φ 11 ∗ Φ 12 ∗ Φ 13 ∗ Φ 14 ∗ Φ 15 ∗ Φ 16))
    ⊢ iprop(Φ 18 ∗ Φ 8 ∗ Φ 17 ∗ Φ 0 ∗ Φ 1 ∗ Φ 2 ∗ Φ 3 ∗ Φ 4 ∗ Φ 5 ∗ Φ 6 ∗ Φ 7 ∗ Φ 9 ∗ Φ 10 ∗ Φ 11 ∗ Φ 12 ∗ Φ 13 ∗ Φ 14 ∗ Φ 15 ∗ Φ 16)
  iintro ⟨H18, H8, H17, ⟨H0, H1, H2, H3, H4, H5, H6, H7⟩, Hr⟩
  isplitl [H18]; · iexact H18
  isplitl [H8]; · iexact H8
  isplitl [H17]; · iexact H17
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hr

/-- A family over the devices: the device's own member, and its peers'. -/
theorem own_peers (c : Dev nD) (Φ : Dev nD → sProp 𝕄) : (bigSep Finset.univ Φ) ⊢ iprop(Φ c ∗ bigSep (Finset.univ.erase c) Φ) :=
  Entails.of_eq (bErase (Finset.mem_univ c) Φ)
/-- The device's own member and its peers' make the family. -/
theorem peers_own (c : Dev nD) (Φ : Dev nD → sProp 𝕄) : iprop(Φ c ∗ bigSep (Finset.univ.erase c) Φ) ⊢ (bigSep Finset.univ Φ) :=
  Entails.of_eq (bErase (Finset.mem_univ c) Φ).symm

/-- The tokens a device pays its peers with, by kind. -/
theorem tok_kinds (c : Dev nD) (S : Finset (Dev nD)) : (bigSep S fun d => payTok (F := F) c d)
    ⊢ iprop((bigSep S fun d => tok d kba c) ∗ (bigSep S fun d => tok d kqr c) ∗ (bigSep S fun d => tok d kcr c)
      ∗ (bigSep S fun d => tok c (kqs d) c) ∗ (bigSep S fun d => (tok c (kcs d) c : sProp 𝕄))) := by
  unfold payTok
  rw [bSep, bSep, bSep, bSep]

/-- Of a device's tokens, those towards its peers, by kind. -/
theorem peer_toks (c : Dev nD) : (bigSep Finset.univ fun d => payTok (F := F) c d)
    ⊢ iprop((bigSep (Finset.univ.erase c) fun d => tok d kba c) ∗ (bigSep (Finset.univ.erase c) fun d => tok d kqr c) ∗ (bigSep (Finset.univ.erase c) fun d => tok d kcr c)
      ∗ (bigSep (Finset.univ.erase c) fun d => tok c (kqs d) c) ∗ (bigSep (Finset.univ.erase c) fun d => (tok c (kcs d) c : sProp 𝕄))) := by
  iintro H
  ihave H := (own_peers c fun d => payTok (F := F) c d) $$ H
  icases H with ⟨-, H⟩
  iapply (tok_kinds c _) $$ H

/-- A landing buffer at any contents: the device's own row, and the rows its peers write. -/
theorem split_w (c : Dev nD) (f : CT (F := F) cc0_scratch1) : (((lw c) ↦{fullShare} f : sProp 𝕄))
    ⊢ iprop((∃ f, wP c c.val f) ∗ bigSep (Finset.univ.erase c) fun d => iprop(∃ f, wP (F := F) c d.val f)) := by
  iintro H
  ihave H := (Entails.of_eq (rows_w c f).symm) $$ H
  ihave H := (own_peers c fun d => wP (F := F) c d.val f) $$ H
  icases H with ⟨Ho, Hr⟩
  isplitl [Ho]; · iexists f; iexact Ho
  iapply (show (bigSep (Finset.univ.erase c) fun d => wP (F := F) c d.val f) ⊢ bigSep (Finset.univ.erase c) fun d => iprop(∃ f, wP (F := F) c d.val f) from
    bigSep_mono fun d _ => show wP (F := F) c d.val f ⊢ iprop(∃ f, wP (F := F) c d.val f) by iintro H; iexists f; iexact H) $$ Hr
/-- The second landing buffer splits in the same way. -/
theorem split_cb (c : Dev nD) (f : CT (F := F) cc0_scratch3) : (((lcb c) ↦{fullShare} f : sProp 𝕄))
    ⊢ iprop((∃ f, cbP c c.val f) ∗ bigSep (Finset.univ.erase c) fun d => iprop(∃ f, cbP (F := F) c d.val f)) := by
  iintro H
  ihave H := (Entails.of_eq (rows_cb c f).symm) $$ H
  ihave H := (own_peers c fun d => cbP (F := F) c d.val f) $$ H
  icases H with ⟨Ho, Hr⟩
  isplitl [Ho]; · iexists f; iexact Ho
  iapply (show (bigSep (Finset.univ.erase c) fun d => cbP (F := F) c d.val f) ⊢ bigSep (Finset.univ.erase c) fun d => iprop(∃ f, cbP (F := F) c d.val f) from
    bigSep_mono fun d _ => show cbP (F := F) c d.val f ⊢ iprop(∃ f, cbP (F := F) c d.val f) by iintro H; iexists f; iexact H) $$ Hr

/-! ## The states the steps start and end in -/

/-- What the launch gives is what the first signal starts from. -/
theorem sig_start (c : Dev nD) : iprop((∃ W, owes (c : Thread nD τ) (O₀ c) W) ∗ (bigSep (Finset.univ.erase c) fun d => tok d kba c)
      ∗ (bigSep (Finset.univ.erase c) fun d => iprop(∃ f, wP (F := F) c d.val f)) ∗ (bigSep (Finset.univ.erase c) fun d => iprop(∃ f, cbP (F := F) c d.val f)))
    ⊢ sigSt c (sg0 c) := by
  unfold sigSt sg0 O₀; rw [bSep, bSep]
/-- After the seventh signal only the two exchanges are owed. -/
theorem sig_end (c : Dev nD) : sigSt (F := F) c (sg7 c) ⊢ iprop(∃ W, owes (c : Thread nD τ) (OQ c (Finset.univ.erase c)) W) := by
  rw [sg_done]; unfold sigSt; rw [OB_empty]
  iintro ⟨H, -⟩; iexact H

/-- The stage filled: the row the device keeps, and those it sends. -/
theorem stage_rows (c : Dev nD) : stgAt m c 24 ⊢ iprop(stP c c.val (G m c) ∗ bigSep (Finset.univ.erase c) fun d => stP c d.val (G m c)) := by
  unfold stgAt
  iintro ⟨%f, %hf, H⟩
  have e : f = G m c := funext fun i => hf i (by
    have h0 : (i 0).val < 8 := (i 0).isLt
    have h1 : (i 1).val < 3 := (i 1).isLt
    omega)
  subst e
  ihave H := (Entails.of_eq (rows_st c (G m c)).symm) $$ H
  iapply (own_peers c fun d => stP (F := F) c d.val (G m c)) $$ H

/-- What the peers' barrier signals hand over: a row of each peer's first landing buffer, and one of each second. -/
theorem bar_rows (c : Dev nD) (S : Finset (Dev nD)) : (bigSep S fun p => barPay (F := F) c p)
    ⊢ iprop((bigSep S fun p => iprop(∃ f, wP (F := F) p c.val f)) ∗ bigSep S fun p => iprop(∃ f, cbP (F := F) p c.val f)) := by
  unfold barPay; rw [bSep]

/-- The filled stage, the peers' rows and the tokens are what the first exchange starts from. -/
theorem q_start (c : Dev nD) : iprop((∃ W, owes (c : Thread nD τ) (OQ c (Finset.univ.erase c)) W)
      ∗ (bigSep (Finset.univ.erase c) fun d => stP c d.val (G m c)) ∗ (bigSep (Finset.univ.erase c) fun d => iprop(∃ f, wP (F := F) d c.val f))
      ∗ (bigSep (Finset.univ.erase c) fun d => tok c (kqs d) c) ∗ (bigSep (Finset.univ.erase c) fun d => tok d kqr c))
    ⊢ qSt m c (QS c 0) := by
  unfold qSt; rw [QS_zero, two_start]; unfold qPre; rw [bSep, bSep, bSep]
/-- After the first exchange's sends the second exchange is owed, and each send may be waited for. -/
theorem q_end (c : Dev nD) : qSt m c (QS c 8) ⊢ iprop((∃ W, owes (c : Thread nD τ) (OC (Finset.univ.erase c)) W) ∗ bigSep (Finset.univ.erase c) fun d => qPost (F := F) c d) := by
  unfold qSt; rw [two_done _ _ (QS_done c), QS_done, OQ_empty]
/-- The context, the peers' rows and the tokens are what the second exchange starts from. -/
theorem c_start (c : Dev nD) : iprop((∃ W, owes (c : Thread nD τ) (OC (Finset.univ.erase c)) W)
      ∗ (bigSep (Finset.univ.erase c) fun d => ctP c d.val (Cf m c)) ∗ (bigSep (Finset.univ.erase c) fun d => iprop(∃ f, cbP (F := F) d c.val f))
      ∗ (bigSep (Finset.univ.erase c) fun d => tok c (kcs d) c) ∗ (bigSep (Finset.univ.erase c) fun d => tok d kcr c))
    ⊢ cSt m c (QS c 0) := by
  unfold cSt; rw [QS_zero, two_start]; unfold cPre; rw [bSep, bSep, bSep]
/-- After the second exchange's sends nothing is owed, and each send may be waited for. -/
theorem c_end (c : Dev nD) : cSt m c (QS c 8) ⊢ iprop((∃ W, owes (c : Thread nD τ) 0 W) ∗ bigSep (Finset.univ.erase c) fun d => cPost (F := F) c d) := by
  unfold cSt; rw [two_done _ _ (QS_done c), QS_done, OC_empty]

/-- The device's own row before its copy in the first exchange. -/
theorem qOwn_start (c : Dev nD) : iprop(stP c c.val (G m c) ∗ ∃ f, wP c c.val f) ⊢ qOwn m c (OS 0) := by
  unfold qOwn; rw [if_pos (by rw [OS_zero]; exact Finset.mem_univ c)]
/-- After the eighth slot no device's own slot lies ahead. -/
theorem not_OS (c : Dev nD) : c ∉ OS 8 := fun h => by
  have h1 : c.val < 8 := c.2
  have h2 : 8 ≤ c.val := (Finset.mem_filter.mp h).2
  omega
/-- The device's own row after its copy in the first exchange. -/
theorem qOwn_end (c : Dev nD) : qOwn m c (OS 8) ⊢ iprop(stP c c.val (G m c) ∗ wP c c.val (Wf m c)) := by
  unfold qOwn; rw [if_neg (not_OS c)]
/-- The device's own row before its copy in the second exchange. -/
theorem cOwn_start (c : Dev nD) : iprop(ctP c c.val (Cf m c) ∗ ∃ f, cbP c c.val f) ⊢ cOwn m c (OS 0) := by
  unfold cOwn; rw [if_pos (by rw [OS_zero]; exact Finset.mem_univ c)]
/-- The device's own row after its copy in the second exchange. -/
theorem cOwn_end (c : Dev nD) : cOwn m c (OS 8) ⊢ iprop(ctP c c.val (Cf m c) ∗ cbP c c.val (Bf m c)) := by
  unfold cOwn; rw [if_neg (not_OS c)]

/-- The context stored: the row the device keeps, and those it sends. -/
theorem ctx_rows (c : Dev nD) : ((lct c) ↦{fullShare} Cf m c : sProp 𝕄) ⊢ iprop(ctP c c.val (Cf m c) ∗ bigSep (Finset.univ.erase c) fun d => ctP c d.val (Cf m c)) := by
  rw [← rows_ct]; exact own_peers c fun d => ctP (F := F) c d.val (Cf m c)

/-- With credit for seven rows, none of the seven waits is done. -/
theorem rcv_start (c : Dev nD) (kk : Fin 19) (N : ℕ) (O : CellTallies nD τ sig Unit) :
    iprop(atPos ER (kcell (c, kk)) 0 ∅ 0 ∗ cred (tallyAt (kcell (c, kk)) () (7 * N)) ∗ ∃ W, owes (c : Thread nD τ) O W) ⊢ rcvSt m c kk N O 0 := by
  unfold rcvSt
  rw [Nat.zero_mul, Nat.sub_zero]
  iintro ⟨Ha, Hc, HO⟩
  iexists ∅
  isplitr; · ipureintro; exact Finset.empty_subset _
  isplitl [Ha]; · iexact Ha
  isplitr; · rw [BI.bigSep_empty]; iempintro
  isplitl [Hc] <;> iassumption

/-- With every send in flight, none of the final waits is done. -/
theorem f_start (c : Dev nD) : iprop((∃ W, owes (c : Thread nD τ) 0 W) ∗ (bigSep (Finset.univ.erase c) fun d => qPost (F := F) c d) ∗ (bigSep (Finset.univ.erase c) fun d => cPost (F := F) c d)
      ∗ (bigSep (Finset.univ.erase c) fun d => atPos ER (kcell (c, kqs d)) 0 ∅ 0) ∗ (bigSep (Finset.univ.erase c) fun d => atPos ER (kcell (c, kcs d)) 0 ∅ 0))
    ⊢ fSt m c (QS c 0) := by
  unfold fSt; rw [QS_zero, two_start]; unfold fPre; rw [bSep, bSep, bSep]
/-- After the final waits the device has its stage rows and its context rows back. -/
theorem f_end (c : Dev nD) : fSt m c (QS c 8) ⊢ iprop((∃ W, owes (c : Thread nD τ) 0 W) ∗ (bigSep (Finset.univ.erase c) fun d => stP c d.val (G m c)) ∗ (bigSep (Finset.univ.erase c) fun d => ctP c d.val (Cf m c))
      ∗ (bigSep (Finset.univ.erase c) fun d => atPos ER (kcell (c, kqs d)) 1 ∅ 0) ∗ (bigSep (Finset.univ.erase c) fun d => atPos ER (kcell (c, kcs d)) 1 ∅ 0)) := by
  unfold fSt; rw [two_done _ _ (QS_done c)]; unfold fPost; rw [bSep, bSep, bSep]

/-- All rows of the stage make the stage. -/
theorem st_join (c : Dev nD) : iprop(stP c c.val (G m c) ∗ bigSep (Finset.univ.erase c) fun d => stP c d.val (G m c)) ⊢ ((lst c) ↦{fullShare} G m c : sProp 𝕄) := by
  rw [← rows_st]; exact peers_own c fun d => stP (F := F) c d.val (G m c)
/-- All rows of the context make the context buffer. -/
theorem ct_join (c : Dev nD) : iprop(ctP c c.val (Cf m c) ∗ bigSep (Finset.univ.erase c) fun d => ctP c d.val (Cf m c)) ⊢ ((lct c) ↦{fullShare} Cf m c : sProp 𝕄) := by
  rw [← rows_ct]; exact peers_own c fun d => ctP (F := F) c d.val (Cf m c)

/-! ## Closing the cells -/

/-- A cell with no duty left gives up its counter, at zero. -/
theorem close_one (K : Dev nD × Fin 19 → ℕ) (x : Dev nD × Fin 19) (R : ℕ) (hR : ∀ r, R ≤ r → (rd (F := F) m).duties (kcell x) r = ∅) :
    iprop(records m K ∗ atPos ER (kcell x) R ∅ 0) ⊢ (|={Set.univ}=> semVal (kcell x) 0 : sProp 𝕄) := by
  iintro ⟨#HR, Ha⟩
  iapply (Rounds.cell_close ER (rd m) (Set.mem_univ (K x)) (fun h => h) (R := R) hR)
  isplitr; · iapply (inv_at m K x); iexact HR
  iexact Ha

/-- The send cells of one exchange, the device's own unused one among them, give up their counters at zero. -/
theorem close_peers (K : Dev nD × Fin 19 → ℕ) (c : Dev nD) (kk : Dev nD → Fin 19) (h0 : dut (kk c).val c = ∅) :
    iprop(records m K ∗ atPos ER (kcell (c, kk c)) 0 ∅ 0 ∗ bigSep (Finset.univ.erase c) fun d => atPos ER (kcell (c, kk d)) 1 ∅ 0)
      ⊢ (|={Set.univ}=> bigSep Finset.univ fun d => semVal (kcell (c, kk d)) 0 : sProp 𝕄) := by
  iintro ⟨#HR, Ho, Hp⟩
  imod (close_one m K (c, kk c) 0 fun r _ => by
    rcases Nat.eq_zero_or_pos r with rfl | h
    · rw [duties_k, h0]
    · exact duties_later m _ r h) $$ [Ho] with Ho
  · isplitr; · iexact HR
    iexact Ho
  imod (show iprop(records m K ∗ bigSep (Finset.univ.erase c) fun d => atPos ER (kcell (c, kk d)) 1 ∅ 0)
      ⊢ (|={Set.univ}=> bigSep (Finset.univ.erase c) fun d => semVal (kcell (c, kk d)) 0 : sProp 𝕄) from
    (sep_mono_left (BI.bigSep_of_persistent (Finset.univ.erase c) (records m K))).trans (by
      rw [← bSep]
      exact (bigSep_mono fun d _ => close_one m K (c, kk d) 1 (duties_later m _)).trans (bigSep_fupd _ _))) $$ [Hp] with Hp
  · isplitr; · iexact HR
    iexact Hp
  imodintro
  iapply (peers_own c fun d => semVal (kcell (c, kk d)) 0)
  isplitl [Ho] <;> iassumption

/-- A device's nineteen semaphores, all at zero again. -/
theorem close_all (K : Dev nD × Fin 19 → ℕ) (c : Dev nD) :
    iprop(records m K ∗ atPos ER (kcell (c, kba)) 1 ∅ 0 ∗ atPos ER (kcell (c, kqr)) 1 ∅ 0 ∗ atPos ER (kcell (c, kcr)) 1 ∅ 0
        ∗ (atPos ER (kcell (c, kqs c)) 0 ∅ 0 ∗ bigSep (Finset.univ.erase c) fun d => atPos ER (kcell (c, kqs d)) 1 ∅ 0)
        ∗ (atPos ER (kcell (c, kcs c)) 0 ∅ 0 ∗ bigSep (Finset.univ.erase c) fun d => atPos ER (kcell (c, kcs d)) 1 ∅ 0))
      ⊢ (|={Set.univ}=> bigSep Finset.univ fun k : Fin 19 => semVal (kcell (c, k)) 0 : sProp 𝕄) := by
  iintro ⟨#HR, Hb, Hq, Hc, Hqs, Hcs⟩
  imod (close_one m K (c, kba) 1 (duties_later m _)) $$ [Hb] with Hb
  · isplitr; · iexact HR
    iexact Hb
  imod (close_one m K (c, kqr) 1 (duties_later m _)) $$ [Hq] with Hq
  · isplitr; · iexact HR
    iexact Hq
  imod (close_one m K (c, kcr) 1 (duties_later m _)) $$ [Hc] with Hc
  · isplitr; · iexact HR
    iexact Hc
  imod (close_peers m K c kqs (by rw [dut_qs, if_pos rfl])) $$ [Hqs] with Hqs
  · isplitr; · iexact HR
    iexact Hqs
  imod (close_peers m K c kcs (by rw [dut_cs, if_pos rfl])) $$ [Hcs] with Hcs
  · isplitr; · iexact HR
    iexact Hcs
  imodintro
  iapply (cells_join fun k : Fin 19 => (semVal (kcell (c, k)) 0 : sProp 𝕄))
  isplitl [Hb]; · iexact Hb
  isplitl [Hq]; · iexact Hq
  isplitl [Hc]; · iexact Hc
  isplitl [Hqs] <;> iassumption

end Cert.KernelIdealProof

end
-- ==== Proof.Body.lean ====
/-
The kernel's body on one device, run from the resources the launch deals it to the state it leaves.
-/
module

public import proofs.«01_k».proof.Proof.Ends

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each of the five inputs is fetched at the only step. -/
theorem fetched (t : Fin cfg0.N) : ((cfg0.win (0 : Fin 6)).fetch t = true ∧ (cfg0.win (1 : Fin 6)).fetch t = true ∧ (cfg0.win (2 : Fin 6)).fetch t = true)
    ∧ (cfg0.win (3 : Fin 6)).fetch t = true ∧ (cfg0.win (4 : Fin 6)).fetch t = true := by
  rw [fin_N0 t]; exact ⟨⟨rfl, rfl, rfl⟩, rfl, rfl⟩

/-- The launch's only step. -/
abbrev t₀ : Fin cfg0.N := t0_0

/-! ## What the launch deals a device, and what it gets back -/

/-- The records of all cells, the positions of its own, and the tokens it pays with. -/
def ghost (K : Dev nD × Fin 19 → ℕ) (c : Dev nD) : sProp 𝕄 :=
  iprop(records m K ∗ ats c ∗ bigSep Finset.univ fun d => payTok c d)

/-- What a device starts with, its scratch buffers aside: all of that, the credits it waits for, and the levels. -/
def start (c : Dev nD) : sProp 𝕄 :=
  iprop((∃ K, ghost m K c) ∗ cred (tallyAt (kcell (c, kba)) () 7) ∗ cred (tallyAt (kcell (c, kqr)) () (7 * N1))
    ∗ cred (tallyAt (kcell (c, kcr)) () (7 * N2)) ∗ levAts L lv)

/-- The four scratch buffers, at any contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Before the body: the ghost state with its credits, and the scratch buffers. -/
def Φ₀ (c : Dev nD) : sProp 𝕄 := iprop(start m c ∗ scr (F := F) c)
/-- Afterwards: the scratch buffers, and every semaphore at zero. -/
def Φ₁ (c : Dev nD) : sProp 𝕄 := iprop(scr (F := F) c ∗ bigSep Finset.univ fun k : Fin 19 => semVal (kcell (c, k)) 0)

/-- What each device's staging buffers and scratch hold before and after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => wqs m c
    | ⟨2, _⟩ => ks m c
    | ⟨3, _⟩ => vs m c
    | ⟨4, _⟩ => wos m c
    | ⟨5, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole buffer at contents `X` is pointing to it at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's program on the staging buffers. -/
abbrev prog : Prog (TpuEff nD τ sig (Elt F) Λ₀ .tc) PUnit :=
  cc0_body (F := F) xM (Memref.isWhole_whole _) wqM (Memref.isWhole_whole _) kM (Memref.isWhole_whole _) vM (Memref.isWhole_whole _) woM (Memref.isWhole_whole _) oM (Memref.isWhole_whole _)
    stM (Memref.isWhole_whole _) wM (Memref.isWhole_whole _) ctM (Memref.isWhole_whole _) cbM (Memref.isWhole_whole _) cc0_scratch4 cc0_scratch5 cc0_scratch6 cc0_scratch7

/-- What the body needs: the ghost state, the owed units, the scratch buffers, the staged inputs, the result's buffer. -/
def bodyIn (K : Dev nD × Fin 19 → ℕ) (c : Dev nD) : sProp 𝕄 :=
  iprop((ghost m K c ∗ cred (tallyAt (kcell (c, kba)) () 7) ∗ cred (tallyAt (kcell (c, kqr)) () (7 * N1))
      ∗ cred (tallyAt (kcell (c, kcr)) () (7 * N2)) ∗ levAts L lv) ∗ scr (F := F) c ∗ (∃ W, owes (c : Thread nD τ) (O₀ c) W)
    ∗ (((c : Thread nD τ).loc cc0_stg0_0) ↦{fullShare} xs m c) ∗ (((c : Thread nD τ).loc cc0_stg1_0) ↦{fullShare} wqs m c)
    ∗ (((c : Thread nD τ).loc cc0_stg2_0) ↦{fullShare} ks m c) ∗ (((c : Thread nD τ).loc cc0_stg3_0) ↦{fullShare} vs m c)
    ∗ (((c : Thread nD τ).loc cc0_stg4_0) ↦{fullShare} wos m c)
    ∗ ∃ f : CT (F := F) cc0_stg5_0, ((c : Thread nD τ).loc cc0_stg5_0) ↦{fullShare} f)

/-- What the body leaves: scratch, counters at zero, nothing owed, the inputs as they were, the result in its buffer. -/
def bodyOut (c : Dev nD) : sProp 𝕄 :=
  iprop(Φ₁ (F := F) c ∗ (∃ W, owes (c : Thread nD τ) 0 W)
    ∗ (((c : Thread nD τ).loc cc0_stg0_0) ↦{fullShare} xs m c) ∗ (((c : Thread nD τ).loc cc0_stg1_0) ↦{fullShare} wqs m c)
    ∗ (((c : Thread nD τ).loc cc0_stg2_0) ↦{fullShare} ks m c) ∗ (((c : Thread nD τ).loc cc0_stg3_0) ↦{fullShare} vs m c)
    ∗ (((c : Thread nD τ).loc cc0_stg4_0) ↦{fullShare} wos m c) ∗ (((c : Thread nD τ).loc cc0_stg5_0) ↦{fullShare} outF m c))

/-- The kernel's last test is true on every device but the last. -/
theorem last_cond (c : Dev nD) : k0_cond40 c = 1#1 ↔ c.val ≠ 7 := by revert c; decide +kernel

/-- The last two waits, nothing after them in their own block. -/
theorem last_guard (K : Dev nD × Fin 19 → ℕ) (c : Dev nD) (n : ℕ) (hn : n < 8) {P : Prop} [Decidable P] (hP : P ↔ c.val ≠ n)
    {sp₁ sp₁' sp₂ sp₂' : Space} {s₁ s₁' s₂ s₂' : Shape} {e₁ e₁' e₂ e₂' : EltTy} {sem₁ sem₂ : DmaSem sig}
    (hsem₁ : SemLoc.dma sem₁ = csem (kqs ⟨n, hn⟩)) (hsem₂ : SemLoc.dma sem₂ = csem (kcs ⟨n, hn⟩))
    {src₁ : P → Memref sig .tc sp₁' s₁' e₁'} {dst₁ : Memref sig .tc sp₁ s₁ e₁} (hN₁ : dst₁.view.dmaCredit = N1) {hsrc₁ : ∀ hp, (src₁ hp).view.WordExact} {hdst₁ : P → dst₁.view.WordExact}
    {src₂ : P → Memref sig .tc sp₂' s₂' e₂'} {dst₂ : Memref sig .tc sp₂ s₂ e₂} (hN₂ : dst₂.view.dmaCredit = N2) {hsrc₂ : ∀ hp, (src₂ hp).view.WordExact} {hdst₂ : P → dst₂.view.WordExact}
    {α : Type} {j : Prog (TpuEff nD τ sig (Elt F) Λ₀ .tc) α} {Q : α → sProp 𝕄} :
    iprop(records m K ∗ fSt m c (QS c n))
      ⊢ iprop((fSt m c (QS c (n + 1)) -∗ wp frame (wpE (defs₀ (F := F)) 𝒱₀ (c : Thread nD τ) none) Set.univ j Q)
        -∗ wp frame (wpE (defs₀ (F := F)) 𝒱₀ (c : Thread nD τ) none) Set.univ
          (if hp : P then (Prog.lift (.waitDma2 sem₁ (src₁ hp) dst₁ (hsrc₁ hp) (hdst₁ hp)) >>= fun _ => Prog.lift (.waitDma2 sem₂ (src₂ hp) dst₂ (hsrc₂ hp) (hdst₂ hp)) >>= fun _ => j)
            else j) Q) := by
  have h := guard_sent m K c n hn hP hsem₁ hsem₂ hN₁ hN₂ (src₁ := src₁) (src₂ := src₂) (hsrc₁ := hsrc₁) (hdst₁ := hdst₁) (hsrc₂ := hsrc₂) (hdst₂ := hdst₂) (j := j) (k := Prog.ret) (Q := Q)
  simpa only [show ∀ p : Prog (TpuEff nD τ sig (Elt F) Λ₀ .tc) α, (p >>= Prog.ret) = p from fun p => bind_pure p] using h

set_option maxHeartbeats 2000000 in
/-- The body, part after part. -/
theorem sound_body (K : Dev nD × Fin 19 → ℕ) (c : Dev nD) (Q : PUnit → sProp 𝕄) :
    iprop(bodyIn m K c ∗ (bodyOut m c -∗ Q ⟨⟩)) ⊢ wp frame (wpE (defs₀ (F := F)) 𝒱₀ (c : Thread nD τ) none) Set.univ (prog (F := F)) Q := by
  unfold prog; rw [cc0_body_eq_skeleton]; unfold cc0_body_skel
  unfold bodyIn ghost ats scr
  iintro ⟨⟨⟨⟨#HR, Hats, Htok⟩, HcB, HcQ, HcC, #HL⟩, ⟨⟨%f0, Hst⟩, ⟨%f1, Hw⟩, ⟨%f2, Hct⟩, ⟨%f3, Hcb⟩⟩, HO, Hx, Hwq, Hk, Hv, Hwo, Hout⟩, HQ⟩
  ihave Hats := (cells_split fun k : Fin 19 => (atPos ER (kcell (c, k)) 0 ∅ 0 : sProp 𝕄)) $$ Hats
  icases Hats with ⟨HaB, HaQ, HaC, Hqs, Hcs⟩
  ihave Hqs := (own_peers c fun d => (atPos ER (kcell (c, kqs d)) 0 ∅ 0 : sProp 𝕄)) $$ Hqs
  icases Hqs with ⟨HqsO, HqsP⟩
  ihave Hcs := (own_peers c fun d => (atPos ER (kcell (c, kcs d)) 0 ∅ 0 : sProp 𝕄)) $$ Hcs
  icases Hcs with ⟨HcsO, HcsP⟩
  ihave Htok := (peer_toks (F := F) c) $$ Htok
  icases Htok with ⟨HtB, HtQ, HtC, HtQs, HtCs⟩
  ihave Hw := (split_w c f1) $$ Hw
  icases Hw with ⟨HwO, HwP⟩
  ihave Hcb := (split_cb c f3) $$ Hcb
  icases Hcb with ⟨HcbO, HcbP⟩
  -- the signals
  ihave H := (sig_start (F := F) c) $$ [HO HtB HwP HcbP]
  · isplitl [HO]; · iexact HO
    isplitl [HtB]; · iexact HtB
    isplitl [HwP] <;> iassumption
  iapply (run_part1 m K c) $$ [H]
  · isplitr; · iexact HR
    iexact H
  iintro H
  ihave Hs := (show iprop((((c : Thread nD τ).loc cc0_stg0_0) ↦{fullShare} xs m c) ∗ (((c : Thread nD τ).loc cc0_stg1_0) ↦{fullShare} wqs m c)
    ∗ (((c : Thread nD τ).loc cc0_stg2_0) ↦{fullShare} ks m c) ∗ (((c : Thread nD τ).loc cc0_stg3_0) ↦{fullShare} vs m c) ∗ ((lst c) ↦{fullShare} f0)) ⊢ stSt m c 0 by
      unfold stSt stgAt
      iintro ⟨H1, H2, H3, H4, H5⟩
      isplitl [H1]; · iexact H1
      isplitl [H2]; · iexact H2
      isplitl [H3]; · iexact H3
      isplitl [H4]; · iexact H4
      iexists f0
      isplitr; · ipureintro; exact fun i h => absurd h (Nat.not_lt_zero _)
      iexact H5) $$ [Hx Hwq Hk Hv Hst]
  · isplitl [Hx]; · iexact Hx
    isplitl [Hwq]; · iexact Hwq
    isplitl [Hk]; · iexact Hk
    isplitl [Hv] <;> iassumption
  iapply (run_part2 m K _ c) $$ [H Hs]
  · isplitr; · iexact HR
    isplitl [H] <;> iassumption
  iintro ⟨H, Hs⟩
  -- the stage
  iapply (run_part3 m c) $$ Hs; iintro Hs
  iapply (run_part4 m c) $$ Hs; iintro Hs
  iapply (run_part5 m c) $$ Hs; iintro Hs
  iapply (run_part6 m c) $$ Hs; iintro Hs
  ihave HO := (sig_end (F := F) c) $$ H
  iapply (run_part7 m K _ c) $$ [Hs HcB HO HaB]
  · isplitl [Hs]; · iexact Hs
    isplitr; · iexact HR
    isplitr; · iexact HL
    isplitl [HcB]; · iexact HcB
    isplitl [HO] <;> iassumption
  iintro ⟨Hs, HO, HaB, Hbar⟩
  ihave Hs := (show stSt m c 24 ⊢ iprop(((((c : Thread nD τ).loc cc0_stg0_0) ↦{fullShare} xs m c) ∗ (((c : Thread nD τ).loc cc0_stg1_0) ↦{fullShare} wqs m c)
    ∗ (((c : Thread nD τ).loc cc0_stg2_0) ↦{fullShare} ks m c) ∗ (((c : Thread nD τ).loc cc0_stg3_0) ↦{fullShare} vs m c)) ∗ stgAt m c 24) by
      unfold stSt
      iintro ⟨H1, H2, H3, H4, H5⟩
      isplitr [H5]
      · isplitl [H1]; · iexact H1
        isplitl [H2]; · iexact H2
        isplitl [H3] <;> iassumption
      iexact H5) $$ Hs
  icases Hs with ⟨Hin, Hst⟩
  ihave Hst := (stage_rows m c) $$ Hst
  icases Hst with ⟨HstO, HstP⟩
  ihave Hbar := (bar_rows c _) $$ Hbar
  icases Hbar with ⟨HwP, HcbP⟩
  -- the first exchange
  ihave Hq := (q_start m c) $$ [HO HstP HwP HtQs HtQ]
  · isplitl [HO]; · iexact HO
    isplitl [HstP]; · iexact HstP
    isplitl [HwP]; · iexact HwP
    isplitl [HtQs] <;> iassumption
  ihave Ho := (qOwn_start m c) $$ [HstO HwO]
  · isplitl [HstO] <;> iassumption
  iapply (run_part8 m K _ c) $$ [Hq Ho]
  · isplitr; · iexact HR
    isplitl [Hq] <;> iassumption
  iintro ⟨Hq, Ho⟩
  iapply (run_part9 m K c) $$ [Hq Ho]
  · isplitr; · iexact HR
    isplitl [Hq] <;> iassumption
  iintro ⟨Hq, Ho⟩
  ihave Hq := (q_end m c) $$ Hq
  icases Hq with ⟨HO, HqP⟩
  ihave Ho := (qOwn_end m c) $$ Ho
  icases Ho with ⟨HstO, HwO⟩
  ihave Hr := (rcv_start m c kqr N1 (OC (Finset.univ.erase c))) $$ [HaQ HcQ HO]
  · isplitl [HaQ]; · iexact HaQ
    isplitl [HcQ] <;> iassumption
  iapply (run_part10 m K _ c) $$ [Hr]
  · isplitr
    · isplitr; · iexact HR
      iexact HL
    iexact Hr
  iintro Hr
  iapply (run_part11 m K _ c) $$ [Hr HwO]
  · isplitr
    · isplitr; · iexact HR
      iexact HL
    isplitl [Hr] <;> iassumption
  iintro ⟨Hw, HaQ, HO⟩
  -- the context
  iapply (run_part12 m c) $$ Hw; iintro Hw
  iapply (run_part13 m _ c) $$ [Hct]
  · iexists f2; iexact Hct
  iintro Hct
  ihave Hct := (ctx_rows m c) $$ Hct
  icases Hct with ⟨HctO, HctP⟩
  -- the second exchange
  ihave Hq := (c_start m c) $$ [HO HctP HcbP HtCs HtC]
  · isplitl [HO]; · iexact HO
    isplitl [HctP]; · iexact HctP
    isplitl [HcbP]; · iexact HcbP
    isplitl [HtCs] <;> iassumption
  iapply (run_part14 m K _ _ _ c) $$ [Hq]
  · isplitr; · iexact HR
    iexact Hq
  iintro Hq
  ihave Hq := (c_end m c) $$ Hq
  icases Hq with ⟨HO, HcP⟩
  ihave Ho := (cOwn_start m c) $$ [HctO HcbO]
  · isplitl [HctO] <;> iassumption
  iapply (run_part15 m c) $$ [Ho Hwo]
  · isplitl [Ho] <;> iassumption
  iintro ⟨Ho, Hwo⟩
  ihave Ho := (cOwn_end m c) $$ Ho
  icases Ho with ⟨HctO, HcbO⟩
  ihave Hr := (rcv_start m c kcr N2 0) $$ [HaC HcC HO]
  · isplitl [HaC]; · iexact HaC
    isplitl [HcC] <;> iassumption
  iapply (run_part16 m K _ c) $$ [Hr]
  · isplitr
    · isplitr; · iexact HR
      iexact HL
    iexact Hr
  iintro Hr
  iapply (run_part17 m K _ _ c) $$ [Hr HcbO]
  · isplitr
    · isplitr; · iexact HR
      iexact HL
    isplitl [Hr] <;> iassumption
  iintro ⟨Hcb, HaC, HO⟩
  -- the result, and the waits for what was sent
  ihave Hf := (f_start m c) $$ [HO HqP HcP HqsP HcsP]
  · isplitl [HO]; · iexact HO
    isplitl [HqP]; · iexact HqP
    isplitl [HcP]; · iexact HcP
    isplitl [HqsP] <;> iassumption
  iapply (run_part18 m K _ c) $$ [Hcb Hout Hf]
  · isplitr; · iexact HR
    isplitl [Hcb]; · iexact Hcb
    isplitl [Hout] <;> iassumption
  iintro ⟨Hcb, Hout, Hf⟩
  iapply (run_part19 m K _ _ c) $$ [Hf]
  · isplitr; · iexact HR
    iexact Hf
  iintro Hf
  iapply (last_guard m K c 7 (by decide) (last_cond c) (by rfl) (by rfl) (by rfl) (by rfl)) $$ [Hf]
  · isplitr; · iexact HR
    iexact Hf
  iintro Hf
  simp only [Prog.pure_eq_ret, Prog.bind_ret]
  ihave Hf := (f_end m c) $$ Hf
  icases Hf with ⟨HO, HstP, HctP, HqsP, HcsP⟩
  imod (close_all m K c) $$ [HaB HaQ HaC HqsO HqsP HcsO HcsP] with Hz
  · isplitr; · iexact HR
    isplitl [HaB]; · iexact HaB
    isplitl [HaQ]; · iexact HaQ
    isplitl [HaC]; · iexact HaC
    isplitl [HqsO HqsP]
    · isplitl [HqsO] <;> iassumption
    · isplitl [HcsO] <;> iassumption
  ihave Hst := (st_join m c) $$ [HstO HstP]
  · isplitl [HstO] <;> iassumption
  ihave Hct := (ct_join m c) $$ [HctO HctP]
  · isplitl [HctO] <;> iassumption
  rw [wp_ret]; imodintro
  iapply HQ
  icases Hin with ⟨Hx, Hwq, Hk, Hv⟩
  unfold bodyOut Φ₁ scr
  isplitl [Hst Hw Hct Hcb Hz]
  · isplitr [Hz]
    · isplitl [Hst]; · iexists _; iexact Hst
      isplitl [Hw]; · iexists _; iexact Hw
      isplitl [Hct]; · iexists _; iexact Hct
      iexists _; iexact Hcb
    iexact Hz
  isplitl [HO]; · iexact HO
  isplitl [Hx]; · iexact Hx
  isplitl [Hwq]; · iexact Hwq
  isplitl [Hk]; · iexact Hk
  isplitl [Hv]; · iexact Hv
  isplitl [Hwo] <;> iassumption

end Cert.KernelIdealProof

end
-- ==== Proof.Run.lean ====
/-
The launch: the ghost state minted and dealt to the devices, the body's obligation, and the run of the whole program.
-/
module

public import proofs.«01_k».proof.Proof.Body
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The obligation of the body -/

set_option maxRecDepth 8000 in
/-- Before the body each of the five staging buffers holds its input. -/
theorem before_in (c : Dev nD) : (∀ d, (dats m ρ 0 c).before (0 : Fin 6) t₀ d = xs m c) ∧ (∀ d, (dats m ρ 0 c).before (1 : Fin 6) t₀ d = wqs m c)
    ∧ (∀ d, (dats m ρ 0 c).before (2 : Fin 6) t₀ d = ks m c) ∧ (∀ d, (dats m ρ 0 c).before (3 : Fin 6) t₀ d = vs m c)
    ∧ (∀ d, (dats m ρ 0 c).before (4 : Fin 6) t₀ d = wos m c) := by
  refine ⟨fun d => ?_, fun d => ?_, fun d => ?_, fun d => ?_, fun d => ?_⟩
  · unfold Dat.before; rw [if_pos (fetched t₀).1.1]; rfl
  · unfold Dat.before; rw [if_pos (fetched t₀).1.2.1]; rfl
  · unfold Dat.before; rw [if_pos (fetched t₀).1.2.2]; rfl
  · unfold Dat.before; rw [if_pos (fetched t₀).2.1]; rfl
  · unfold Dat.before; rw [if_pos (fetched t₀).2.2]; rfl

/-- What the launch hands the body. -/
def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- What the body hands the launch back. -/
def bodyPost (c : Dev nD) : sProp 𝕄 :=
  iprop(Φ₁ (F := F) c ∗ (dats m ρ 0 c).owesAt () t₀.succ ∗ stg c cc0_stg0_0 (xs m c) ∗ stg c cc0_stg1_0 (wqs m c) ∗ stg c cc0_stg2_0 (ks m c)
    ∗ stg c cc0_stg3_0 (vs m c) ∗ stg c cc0_stg4_0 (wos m c) ∗ stg c cc0_stg5_0 (outF m c))

/-- The body, run from what the launch hands it, ends with what the launch wants back. -/
theorem body_run (c : Dev nD) : bodyPre m ρ c ⊢ wp frame (wpE (defs₀ (F := F)) 𝒱₀ (c : Thread nD τ) none) Set.univ (prog (F := F)) (fun _ => bodyPost m ρ c) := by
  obtain ⟨e0, e1, e2, e3, e4⟩ := before_in m ρ c
  unfold bodyPre Φ₀ start
  simp only [e0, e1, e2, e3, e4]
  iintro ⟨⟨⟨⟨%K, Hg⟩, Hrest⟩, Hscr⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  unfold Dat.owesAt Pipeline.owesWithin
  icases Ho with ⟨%W, %hW, HO⟩
  iapply (sound_body m K c fun _ => bodyPost m ρ c)
  isplitr []
  · unfold bodyIn
    isplitl [Hg Hrest]
    · isplitl [Hg] <;> iassumption
    isplitl [Hscr]; · iexact Hscr
    isplitl [HO]; · iexists W; iexact HO
    isplitl [H0]; · iexact H0
    isplitl [H1]; · iexact H1
    isplitl [H2]; · iexact H2
    isplitl [H3]; · iexact H3
    isplitl [H4]; · iexact H4
    iexists g5; iexact H5
  · unfold bodyOut bodyPost Dat.owesAt Pipeline.owesWithin
    iintro ⟨HΦ, ⟨%W', HO⟩, H0, H1, H2, H3, H4, H5⟩
    isplitl [HΦ]; · iexact HΦ
    isplitl [HO]
    · iexists W'
      isplitr; · ipureintro; exact fun _ _ => Or.inl trivial
      iexact HO
    isplitl [H0]; · iexists _; isplitr; · (ipureintro; rfl)
                    iexact H0
    isplitl [H1]; · iexists _; isplitr; · (ipureintro; rfl)
                    iexact H1
    isplitl [H2]; · iexists _; isplitr; · (ipureintro; rfl)
                    iexact H2
    isplitl [H3]; · iexists _; isplitr; · (ipureintro; rfl)
                    iexact H3
    isplitl [H4]; · iexists _; isplitr; · (ipureintro; rfl)
                    iexact H4
    iexists _; isplitr; · (ipureintro; rfl)
    iexact H5

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## The launch -/

/-- The kernel's own semaphores are different ones and none of the staging's. -/
theorem ownSemFacts : Pipeline.OwnSemFacts cfg0.spec osem := by decide

/-- Every array is held in full. -/
theorem share_eq (c : Dev nD) (w : Fin cfg0.W) : (dats m ρ 0 c).share w = fullShare := by unfold Dat.share; split <;> rfl

/-- Every cell. -/
def allCells : Finset (GSem nD τ sig) := Finset.univ.map ⟨kcell, kcell_injective⟩

/-- The cell device `c`'s `j`-th token towards device `d` is of. -/
def payCell (c d : Dev nD) (j : Fin 5) : Dev nD × Fin 19 := match j with
  | 0 => (d, kba) | 1 => (d, kqr) | 2 => (d, kcr) | 3 => (c, kqs d) | 4 => (c, kcs d)
/-- Different tokens of a device are of different cells. -/
theorem payCell_injective : ∀ c d : Dev nD, ∀ j : Fin 5, ∀ d' : Dev nD, ∀ j' : Fin 5, payCell c d j = payCell c d' j' → d = d' ∧ j = j' := by decide +kernel
/-- A token: its cell, the round, the device that pays. -/
def tokOf (x : Dev nD × Dev nD × Fin 5) : GSem nD τ sig × ℕ × Dev nD := (kcell (payCell x.1 x.2.1 x.2.2), 0, x.1)
/-- Different indices are different tokens. -/
theorem tokOf_injective : Function.Injective tokOf := by
  rintro ⟨c, d, j⟩ ⟨c', d', j'⟩ h
  have h1 : c = c' := congrArg (fun x : GSem nD τ sig × ℕ × Dev nD => x.2.2) h
  subst h1
  obtain ⟨rfl, rfl⟩ := payCell_injective c d j d' j' (kcell_injective (congrArg (fun x : GSem nD τ sig × ℕ × Dev nD => x.1) h))
  rfl
/-- Every token. -/
def allToks : Finset (GSem nD τ sig × ℕ × Dev nD) := Finset.univ.map ⟨tokOf, tokOf_injective⟩

/-- The ghost state at launch. -/
def u₀ : UU :=
  (initOf (Pipeline.cells cfgs cellOf_inj) (Pipeline.launchToks cfgs cellOf_inj), initOf allCells allToks)

/-- What the launch element deals device `c`. -/
def dealt (c : Dev nD) : sProp 𝕄 :=
  iprop((bigSep Finset.univ fun k : Fin 19 => roundState ER (rd m) (kcell (c, k)) 0)
    ∗ (bigSep Finset.univ fun k : Fin 19 => atPos ER (kcell (c, k)) 0 ∅ 0) ∗ (bigSep Finset.univ fun k : Fin 19 => reached ER (kcell (c, k)) 0)
    ∗ bigSep Finset.univ fun d => payTok c d)

/-- What the step over all devices makes of it. -/
def dealt' (c : Dev nD) : sProp 𝕄 := iprop(∃ K, ghost m K c)

/-- A family over all cells, by device and number. -/
theorem cells_by (Φ : GSem nD τ sig → sProp 𝕄) : bigSep allCells Φ = bigSep Finset.univ fun c : Dev nD => bigSep Finset.univ fun k : Fin 19 => Φ (kcell (c, k)) := by
  unfold allCells; rw [bigSep_map, bigSep_univ_prod]; rfl
/-- All tokens, by the device that holds them and the device they are towards. -/
theorem toks_by : bigSep allToks (fun x => (dutyTok ER x.1 x.2.1 x.2.2 : sProp 𝕄)) = bigSep Finset.univ fun c : Dev nD => bigSep Finset.univ fun d => payTok c d := by
  unfold allToks; rw [bigSep_map, bigSep_univ_prod]
  refine bigSep_congr fun c _ => ?_
  rw [bigSep_univ_prod]
  refine bigSep_congr fun d _ => ?_
  rw [bigSep_univ_eq_bigSepL [(0 : Fin 5), 1, 2, 3, 4] (by decide) (by decide)]
  rfl

/-- The launch's ghost state deals each device its part. -/
theorem fund_all : BI.own (ER (initOf allCells allToks)) ⊢ (|==> bigSep Finset.univ (dealt m) : sProp 𝕄) := by
  iintro HX
  imod (Rounds.fund ER (rd m) allCells allToks) $$ HX with ⟨Hst, Hr, Hat, Htok⟩
  imodintro
  ihave Hst := (Entails.of_eq (cells_by fun g => roundState ER (rd m) g 0)) $$ Hst
  ihave Hat := (Entails.of_eq (cells_by fun g => atPos ER g 0 ∅ 0)) $$ Hat
  ihave Hr := (Entails.of_eq (cells_by fun g => reached ER g 0)) $$ Hr
  ihave Htok := (Entails.of_eq (toks_by (F := F))) $$ Htok
  unfold dealt; rw [bSep, bSep, bSep]
  isplitl [Hst]; · iexact Hst
  isplitl [Hat]; · iexact Hat
  isplitl [Hr] <;> iassumption

/-- The kernel's own semaphores of a device, one by one. -/
theorem ownSems_eq (c : Dev nD) : (Pipeline.ownSems0 (Ix := Unit) (Name := ℕ) (U := UU) (Lvl := ℕ) (Val := Elt F) (τ := τ) osem c : sProp 𝕄)
    = iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0
      ∗ semVal (kcell (c, 12)) 0 ∗ semVal (kcell (c, 13)) 0 ∗ semVal (kcell (c, 14)) 0 ∗ semVal (kcell (c, 15)) 0 ∗ semVal (kcell (c, 16)) 0 ∗ semVal (kcell (c, 17)) 0) := by
  rw [Pipeline.ownSems0_eq_of_list c osem [0, 1, 2, 3, 4, 5, 6, 7, 8, 9, 10, 11, 12, 13, 14, 15, 16, 17] (by decide) (by decide)]; rfl
/-- The one other semaphore of a device is the barrier. -/
theorem barSem_eq (c : Dev nD) : (unscopedSems0 c : sProp 𝕄) = semVal (kcell (c, kba)) 0 := by
  unfold unscopedSems0; rw [bigSep_eq_bigSepL_of_eq [SemLoc.reg barS] (by decide) (by decide)]; rfl
/-- The launch's semaphores of a device are its nineteen. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Fin 19 => semVal (kcell (c, k)) 0 : sProp 𝕄) := by
  rw [ownSems_eq, barSem_eq, bigSep_univ_eq_bigSepL [(18 : Fin 19), 0, 1, 2, 3, 4, 5, 6, 7, 8, 9, 10, 11, 12, 13, 14, 15, 16, 17] (by decide) (by decide)]
  rfl

/-- One device's step: its counters and what it was dealt become the invariants of its cells. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (rd m) κ (kcell (c, k))))
          ∗ (bigSep Finset.univ fun k : Fin 19 => reached ER (kcell (c, k)) 0) ∗ ats c ∗ bigSep Finset.univ fun d => payTok c d) := by
  unfold dealt
  iintro ⟨Hos, Hus, Hst, Hat, Hr, Htok⟩
  ihave Hv := (Entails.of_eq (sems_eq (F := F) c)) $$ [Hos Hus]
  · isplitl [Hus] <;> iassumption
  imod (show iprop((bigSep Finset.univ fun k : Fin 19 => semVal (kcell (c, k)) 0) ∗ bigSep Finset.univ fun k : Fin 19 => roundState ER (rd m) (kcell (c, k)) 0)
      ⊢ (|={Set.univ}=> bigSep Finset.univ fun k => iprop(∃ κ : ℕ, cellInv ER (rd m) κ (kcell (c, k))) : sProp 𝕄) from by
        rw [← bSep]
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · unfold ats; iexact Hat
  iexact Htok

/-- The devices' cells, brought together, give every device the records of all. -/
theorem regroup :
    (bigSep Finset.univ fun c : Dev nD => iprop((bigSep Finset.univ fun k => iprop(∃ κ : ℕ, cellInv ER (rd m) κ (kcell (c, k))))
          ∗ (bigSep Finset.univ fun k : Fin 19 => reached ER (kcell (c, k)) 0) ∗ ats c ∗ bigSep Finset.univ fun d => payTok c d) : sProp 𝕄)
      ⊢ bigSep Finset.univ (dealt' m) := by
  rw [bSep, bSep, ← bigSep_univ_prod (fun ck : Dev nD × Fin 19 => iprop(∃ κ : ℕ, cellInv ER (rd m) κ (kcell ck))),
    ← bigSep_univ_prod (fun ck : Dev nD × Fin 19 => (reached ER (kcell ck) 0 : sProp 𝕄))]
  iintro ⟨HI, #HR, Hrest⟩
  ihave HK := (BI.bigSep_exists_pi Finset.univ (fun (ck : Dev nD × Fin 19) (κ : ℕ) => (cellInv ER (rd m) κ (kcell ck) : sProp 𝕄))) $$ HI
  icases HK with ⟨%K, #HI⟩
  have h1 : ∀ c : Dev nD, iprop(records m K ∗ (ats c ∗ bigSep Finset.univ fun d => payTok c d)) ⊢ dealt' m c := fun c => by
    unfold dealt' ghost
    iintro H; iexists K; iexact H
  have h2 : iprop(records m K ∗ bigSep Finset.univ fun c : Dev nD => iprop(ats c ∗ bigSep Finset.univ fun d => payTok c d)) ⊢ bigSep Finset.univ (dealt' m) :=
    (sep_mono_left (BI.bigSep_of_persistent (Finset.univ : Finset (Dev nD)) (records m K))).trans (by
      rw [← bSep]; exact bigSep_mono fun c _ => h1 c)
  iapply h2
  isplitr
  · unfold records; isplitl; · iexact HI
    iexact HR
  · iexact Hrest

/-- The step over all devices at once: every cell's invariant allocated. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (dealt' m) :=
  ((bigSep_mono fun c _ => core_alloc m c).trans (bigSep_fupd _ _)).trans (BI.fupd_mono (regroup m))

/-! ### The launch credit -/

/-- What a device owes a cell of kind `k`, over a set of devices. -/
theorem owe_at (k k' : Fin 19) (n : ℕ) (S : Finset (Dev nD)) (c : Dev nD) :
    owe k n S (kcell (c, k')) () = if k = k' ∧ c ∈ S then n else 0 := by
  unfold owe
  rw [Finset.sum_apply, Finsupp.finset_sum_apply]
  by_cases h : k = k' ∧ c ∈ S
  · obtain ⟨rfl, hc⟩ := h
    rw [if_pos ⟨rfl, hc⟩, Finset.sum_eq_single_of_mem c hc fun d _ hd => by
      rw [tallyAt_apply, if_neg fun h' => hd (congrArg Prod.fst (kcell_injective h'.1)).symm], tallyAt_apply, if_pos ⟨rfl, rfl⟩]
  · rw [if_neg h]
    refine Finset.sum_eq_zero fun d hd => ?_
    rw [tallyAt_apply]
    refine if_neg fun h' => h ?_
    have e := kcell_injective h'.1
    exact ⟨(congrArg Prod.snd e).symm, by rw [show c = d from congrArg Prod.fst e]; exact hd⟩

/-- What device `d` owes a numbered cell of device `c`: nothing at its own. -/
theorem owed_at (d c : Dev nD) (k : Fin 19) : O₀ d (kcell (c, k)) ()
    = if c = d then 0 else (if kcr = k then N2 else 0) + (if kqr = k then N1 else 0) + (if kba = k then 1 else 0) := by
  unfold O₀ OB OQ OC
  rw [Pi.add_apply, Finsupp.add_apply, Pi.add_apply, Finsupp.add_apply, owe_at, owe_at, owe_at]
  by_cases h : c = d
  · subst h
    rw [if_pos rfl, if_neg fun h => Finset.notMem_erase _ _ h.2, if_neg fun h => Finset.notMem_erase _ _ h.2, if_neg fun h => Finset.notMem_erase _ _ h.2]
  · have hm : c ∈ Finset.univ.erase d := Finset.mem_erase.mpr ⟨h, Finset.mem_univ _⟩
    rw [if_neg h]
    simp only [hm, and_true]

/-- The launch credits a numbered cell with seven payments. -/
theorem launch_at (c : Dev nD) (k : Fin 19) (n : ℕ) (hn : (if kcr = k then N2 else 0) + (if kqr = k then N1 else 0) + (if kba = k then 1 else 0) = n) :
    tallyOn (kcell (c, k)) (launchCredit (Pipeline.owing O₀) 0 (kcell (c, k))) = (tallyAt (kcell (c, k)) () (7 * n) : CellTallies nD τ sig Unit) := by
  unfold tallyAt; refine congrArg _ (Finsupp.ext fun u => ?_); cases u
  rw [Pipeline.launchCredit_owing, Finsupp.single_eq_same, Finset.sum_congr rfl fun d _ => owed_at d c k, hn]
  rw [← Finset.sum_erase_add (Finset.univ : Finset (Dev nD)) (fun d => if c = d then 0 else n) (Finset.mem_univ c), if_pos rfl, Nat.add_zero,
    Finset.sum_congr rfl fun d hd => if_neg (Finset.ne_of_mem_erase hd).symm, Finset.sum_const, card_peers, smul_eq_mul]

/-- A device's credit at launch: seven units at its barrier, seven rows at each of its arrival cells. -/
theorem creds (c : Dev nD) :
    (Pipeline.launchCred O₀ c : sProp 𝕄) ⊢ iprop(cred (tallyAt (kcell (c, kba)) () 7) ∗ cred (tallyAt (kcell (c, kqr)) () (7 * N1)) ∗ cred (tallyAt (kcell (c, kcr)) () (7 * N2))) := by
  unfold Pipeline.launchCred
  rw [bErase (Finset.mem_univ (csem kba)), bErase (i := csem kqr) (Finset.mem_erase.mpr ⟨fun h => absurd (csem_injective h) (by decide), Finset.mem_univ _⟩)]
  have hB : tallyOn ((c : Thread nD τ), csem kba) (launchCredit (Pipeline.owing O₀) 0 ((c : Thread nD τ), csem kba)) = (tallyAt (kcell (c, kba)) () 7 : CellTallies nD τ sig Unit) := launch_at c kba 1 (by rfl)
  have hQ : tallyOn ((c : Thread nD τ), csem kqr) (launchCredit (Pipeline.owing O₀) 0 ((c : Thread nD τ), csem kqr)) = (tallyAt (kcell (c, kqr)) () (7 * N1) : CellTallies nD τ sig Unit) := launch_at c kqr N1 (by show 0 + N1 + 0 = N1; omega)
  have hC : tallyOn ((c : Thread nD τ), csem kcr) (launchCredit (Pipeline.owing O₀) 0 ((c : Thread nD τ), csem kcr)) = (tallyAt (kcell (c, kcr)) () (7 * N2) : CellTallies nD τ sig Unit) := launch_at c kcr N2 (by show N2 + 0 + 0 = N2; omega)
  iintro ⟨H1, H2, H3⟩
  isplitl [H1]; · iapply (Entails.of_eq (congrArg (fun x => (cred x : sProp 𝕄)) hB)) $$ H1
  isplitl [H2]; · iapply (Entails.of_eq (congrArg (fun x => (cred x : sProp 𝕄)) hQ)) $$ H2
  have hm : csem kcr ∈ ((Finset.univ : Finset (SemLoc sig)).erase (csem kba)).erase (csem kqr) := Finset.mem_erase.mpr ⟨fun h => absurd (csem_injective h) (by decide),
    Finset.mem_erase.mpr ⟨fun h => absurd (csem_injective h) (by decide), Finset.mem_univ _⟩⟩
  have hE : (bigSep (((Finset.univ : Finset (SemLoc sig)).erase (csem kba)).erase (csem kqr)) fun sm => (cred (tallyOn ((c : Thread nD τ), sm) (launchCredit (Pipeline.owing O₀) 0 ((c : Thread nD τ), sm))) : sProp 𝕄))
      ⊢ cred (tallyAt (kcell (c, kcr)) () (7 * N2)) := by rw [← hC]; exact bigSep_elim hm
  iapply hE $$ H3

/-! ### The run -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt' m c)
      ⊢ |={Set.univ}=> iprop(start m c ∗ emp) := by
  iintro ⟨-, Hlev, Hcr, -, HG⟩
  ihave Hc := (creds (F := F) c) $$ Hcr
  icases Hc with ⟨H1, H2, H3⟩
  imodintro
  unfold start dealt'
  isplitl
  · isplitl [HG]; · iexact HG
    isplitl [H1]; · iexact H1
    isplitl [H2]; · iexact H2
    isplitl [H3] <;> iassumption
  · iempintro

/-- With the scratch buffers it is the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

/-- The state after the body gives the counters at zero and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [← sems_eq]
  iintro ⟨Hr, Hu, Ho⟩
  isplitl [Hu]; · iexact Hu
  isplitl [Ho] <;> iassumption

/-- The staging's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the arrays hold after the run. -/
def finalA (c : Dev nD) (w : Fin cfg0.W) : Buf (Elt F) ((cfg0.win w).arr.view.loc (c : Thread nD τ)) := (dats m ρ 0 c).arrAt w cfg0.N

/-- Every array of every device holds its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the eight devices ends, with each device's result at
    the computed contents, its inputs unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := dealt' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run hold what they held. -/
theorem finalA_in (c : Dev nD) (w : Fin 6) (hw : (cfg0.win w).isOut = false) : finalA m ρ c w = (s₀ m ρ).mem ((cfg0.win w).arr.view.loc (c : Thread nD τ)) :=
  (dats (F := F) m ρ 0 c).arrAt_in w hw _

end Cert.KernelIdealProof

end
-- ==== Proof.Frames.lean ====
/- The three frames, read off the runs: of the kernel on machine floats, of the kernel on exact numbers, of the reference. -/
module

public import proofs.«01_k».proof.Defs
public import proofs.«01_k».proof.Proof.KernelRun
public import proofs.«01_k».proof.Proof.Run
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

/-- Every run of the kernel on machine floats ends, leaves its five arguments as they were, and leaves every counter at zero. -/
theorem frame_p : Cert.quiescent_Kernel := fun m ρ _ =>
  (θ_run Cert.Kernel.defs _ _).mono (fun _ h => ⟨fun c =>
      ⟨(h.1 c 0).trans (Cert.KernelProof.finalA_in m ρ c 0 rfl), (h.1 c 1).trans (Cert.KernelProof.finalA_in m ρ c 1 rfl),
       (h.1 c 2).trans (Cert.KernelProof.finalA_in m ρ c 2 rfl), (h.1 c 3).trans (Cert.KernelProof.finalA_in m ρ c 3 rfl),
       (h.1 c 4).trans (Cert.KernelProof.finalA_in m ρ c 4 rfl)⟩, h.2⟩) (Cert.KernelProof.run_main (F := Bits) m ρ)

/-- Every run of the kernel on exact numbers ends, leaves its five arguments as they were, and leaves every counter at zero. -/
theorem frame_pi : Cert.quiescent_KernelIdeal := fun m ρ _ =>
  (θ_run Cert.KernelIdeal.defs _ _).mono (fun _ h => ⟨fun c =>
      ⟨(h.1 c 0).trans (Cert.KernelIdealProof.finalA_in m ρ c 0 rfl), (h.1 c 1).trans (Cert.KernelIdealProof.finalA_in m ρ c 1 rfl),
       (h.1 c 2).trans (Cert.KernelIdealProof.finalA_in m ρ c 2 rfl), (h.1 c 3).trans (Cert.KernelIdealProof.finalA_in m ρ c 3 rfl),
       (h.1 c 4).trans (Cert.KernelIdealProof.finalA_in m ρ c 4 rfl)⟩, h.2⟩) (Cert.KernelIdealProof.run_main (F := Ideal) m ρ)

/-- Every run of the reference on exact numbers ends and leaves its arguments as they were; it has no counters. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.ValueMath.lean ====
/-
A softmax row over the extended reals, and why the masked row over all keys is the row over the kept keys alone.
-/
module

public import Idealize.ShloMosaic.PureOps
public import Idealize.ShloMosaic.PureOps.Ideal
public import Idealize.ShloMosaic.Lib.IdealHost

@[expose] public section

noncomputable section

namespace Cert.AttnMath

open Idealize.ShloMosaic

/-- The largest of a row of scores, from minus infinity up. -/
def rowMax {n : ℕ} (f : Fin n → EReal) : EReal := Finset.univ.fold max (Ideal.ofBits .f32 0xFF800000#32 : EReal) f

/-- The sum of the exponentials of a row of scores less their largest. -/
def rowSum {n : ℕ} (f : Fin n → EReal) : EReal := ∑ t, Ideal.exp (f t - rowMax f)

/-- One entry of an attention output: the values weighted by the softmax of the scores. -/
def att {n : ℕ} (f v : Fin n → EReal) : EReal := ∑ t, Ideal.div (Ideal.exp (f t - rowMax f)) (rowSum f) * v t

/-- The word the running maximum starts from stands for minus infinity. -/
theorem negInf : (Ideal.ofBits .f32 0xFF800000#32 : EReal) = ⊥ := by
  simp [Ideal.ofBits, Ideal.ieee]

/-- The word the bound of a finite entry is written with stands for plus infinity. -/
theorem posInf : (Ideal.ofBits .f32 0x7F800000#32 : EReal) = ⊤ := by
  simp [Ideal.ofBits, Ideal.ieee]

/-- The scale of the scores is one eighth, a real number. -/
theorem scale_real : (Ideal.ofBits .f32 0x3E000000#32 : EReal) = (((1 : ℝ) / 8 : ℝ) : EReal) := by
  simp [Ideal.ofBits, Ideal.ieee]
  rw [← EReal.coe_mul]
  norm_num

/-- The largest score as a supremum. -/
theorem rowMax_sup {n : ℕ} (f : Fin n → EReal) : rowMax f = Finset.univ.sup f := by
  unfold rowMax
  rw [negInf]
  rfl

/-- Exponentials are never negative. -/
theorem exp_nonneg (x : EReal) : 0 ≤ Ideal.exp x := by
  induction x using EReal.rec with
  | bot => simp
  | top => simp
  | coe r => rw [Ideal.exp_coe]; exact_mod_cast (Real.exp_pos r).le

/-- The sum of the exponentials of real scores is not zero: the largest score contributes one. -/
theorem rowSum_ne_zero {n : ℕ} (hn : 0 < n) (f : Fin n → EReal) (hf : ∀ t, ∃ r : ℝ, f t = r) : rowSum f ≠ 0 := by
  haveI : Nonempty (Fin n) := ⟨⟨0, hn⟩⟩
  obtain ⟨t, -, ht⟩ := Finset.exists_mem_eq_sup (Finset.univ : Finset (Fin n)) Finset.univ_nonempty f
  obtain ⟨r, hr⟩ := hf t
  have h1 : Ideal.exp (f t - rowMax f) = 1 := by
    rw [rowMax_sup, ht, hr, ← EReal.coe_sub, sub_self, Ideal.exp_coe, Real.exp_zero, EReal.coe_one]
  have h2 : Ideal.exp (f t - rowMax f) ≤ rowSum f :=
    Finset.single_le_sum (f := fun u => Ideal.exp (f u - rowMax f)) (fun u _ => exp_nonneg _) (Finset.mem_univ t)
  intro h0
  rw [h1, h0] at h2
  exact absurd h2 (by norm_num)

/-- Keys whose score is minus infinity drop out of a softmax row: a row `g` over many keys that holds the real scores `f`
    at the keys `e` lists, and minus infinity elsewhere, gives what `f` alone gives. -/
theorem att_restrict {n N : ℕ} (hn : 0 < n) (e : Fin n → Fin N) (he : Function.Injective e) (f v : Fin n → EReal) (g w : Fin N → EReal)
    (hf : ∀ t, ∃ r : ℝ, f t = r) (hg : ∀ t, g (e t) = f t) (hout : ∀ j, j ∉ Set.range e → g j = ⊥) (hv : ∀ t, w (e t) = v t) :
    att g w = att f v := by
  have hM : rowMax g = rowMax f := by
    rw [rowMax_sup, rowMax_sup]
    apply le_antisymm
    · refine Finset.sup_le fun j _ => ?_
      by_cases hj : j ∈ Set.range e
      · obtain ⟨t, rfl⟩ := hj
        rw [hg]
        exact Finset.le_sup (Finset.mem_univ t)
      · rw [hout j hj]
        exact bot_le
    · refine Finset.sup_le fun t _ => ?_
      rw [← hg t]
      exact Finset.le_sup (Finset.mem_univ (e t))
  have h0 : ∀ j, j ∉ Set.range e → Ideal.exp (g j - rowMax f) = 0 := fun j hj => by
    rw [hout j hj, EReal.bot_sub, Ideal.exp_bot]
  have hS : rowSum g = rowSum f := by
    unfold rowSum
    rw [hM]
    exact (Fintype.sum_of_injective e he _ _ h0 fun t => by rw [hg]).symm
  unfold att
  rw [hM, hS]
  refine (Fintype.sum_of_injective e he _ _ (fun j hj => ?_) fun t => ?_).symm
  · rw [h0 j hj]
    unfold Ideal.div
    rw [if_neg (rowSum_ne_zero hn f hf), zero_mul, zero_mul]
  · rw [hg, hv]

/-- A product of reals is real. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A finite sum of reals is real. -/
theorem real_sum {ι : Type} [Fintype ι] (f : ι → EReal) (hf : ∀ i, ∃ r : ℝ, f i = r) : ∃ r : ℝ, ∑ i, f i = r := by
  refine Finset.sum_induction f (fun x => ∃ r : ℝ, x = r) ?_ ⟨0, EReal.coe_zero.symm⟩ fun i _ => hf i
  rintro _ _ ⟨a, rfl⟩ ⟨b, rfl⟩
  exact ⟨a + b, (EReal.coe_add a b).symm⟩

/-- A number whose absolute value is below plus infinity is real. -/
theorem real_of_abs_lt {x : EReal} (h : max x (-x) < ⊤) : ∃ r : ℝ, x = r := by
  induction x using EReal.rec with
  | bot => simp at h
  | top => simp at h
  | coe r => exact ⟨r, rfl⟩

end Cert.AttnMath

end
-- ==== Proof.ValueKernel.lean ====
/-
The kernel's result on one device, read at an index: the four heads' attention over the 512 gathered rows, the pieces the
two exchanges move, and the final product with the output weights.
-/
module

public import proofs.«01_k».proof.Proof.Run
public import proofs.«01_k».proof.Proof.ValueMath
public import Idealize.ShloMosaic.Lib.Pointwise

@[expose] public section

set_option maxRecDepth 16384

noncomputable section

namespace Cert.KernelIdealProof

open Idealize.ShloMosaic Idealize.ShloMosaic.TcCoe
open Cert.KernelIdeal Cert.KernelIdeal.Gen Cert.KernelIdeal.Facts
open Cert.AttnMath

/-! ## The context -/

/-- Attention of one head over 512 gathered rows, the head's columns starting at `o`. -/
def headK (o : ℕ) (h : S512x256.Slices ![0, o] S512x64) (q k v : FVec Ideal S512x256 .bf16) : FVec Ideal S512x64 .f32 :=
  let s : FVec Ideal S512x512 .f32 := mulf (matmul dot_S512x64_S512x64_S512x512_1_1_0_0_n_n none (extractStridedSlice S512x64 ![0, o] q h)
    (extractStridedSlice S512x64 ![0, o] k h) (constant S512x512 .f32 0x00000000#32)) (broadcast S512x512 (Scalar.ofBits .f32 0x3E000000#32))
  let e : FVec Ideal S512x512 .f32 := exp (subf s (broadcastTo S512x512 (shapeCast S512x1
    (multiReduction .maximumf [1] S512 s 0xFF800000#32 reduces_S512x512_S512 (.inl rfl) rfl) shapeCasts_S512_S512x1) broadcasts_S512x1_S512x512))
  matmul dot_S512x512_S512x64_S512x64_1_0_0_1_n_n none
    (truncf .bf16 (divf e (broadcastTo S512x512 (shapeCast S512x1
      (multiReduction .add [1] S512 e 0x00000000#32 reduces_S512x512_S512 (.inl rfl) rfl) shapeCasts_S512_S512x1) broadcasts_S512x1_S512x512)) bitsLt_bf16_f32)
    (extractStridedSlice S512x64 ![0, o] v h) (constant S512x64 .f32 0x00000000#32)

/-- The kernel's first head is that attention at column 0. -/
theorem pay41_head (a b c : Vec Ideal S8x1x64x256 .bf16) :
    k0_pay41 a b c = headK 0 slices_S512x256_o0_0_S512x64 (k0_pay38 a) (k0_pay39 b) (k0_pay40 c) := rfl

/-- The kernel's second head is that attention at column 64. -/
theorem pay42_head (a b c : Vec Ideal S8x1x64x256 .bf16) :
    k0_pay42 a b c = headK 64 slices_S512x256_o0_64_S512x64 (k0_pay38 a) (k0_pay39 b) (k0_pay40 c) := rfl

/-- The stored context is the four heads side by side, cut into eight pieces of 64 rows. -/
theorem pay43_heads (q k v : FVec Ideal S512x256 .bf16) (a b : FVec Ideal S512x64 .f32) :
    k0_pay43 q k v a b = shapeCast S8x64x256 (truncf .bf16 (shapeCast S8x64x256 (concatenate S512x256 1
      [⟨S512x64, a⟩, ⟨S512x64, b⟩, ⟨S512x64, headK 128 slices_S512x256_o0_128_S512x64 q k v⟩,
        ⟨S512x64, headK 192 slices_S512x256_o0_192_S512x64 q k v⟩] concatenates_S512x64_S512x64_S512x64_S512x64_S512x256_d1)
      shapeCasts_S512x256_S8x64x256) bitsLt_bf16_f32) shapeCasts_S8x64x256_S8x64x256 := rfl

/-- One context entry from the gathered rows: attention of query row `r` in the columns from `o`, the value column `l`. -/
def ctx (q k v : FVec Ideal S512x256 .bf16) (r : Fin 512) (o : ℕ) (ho : o + 64 ≤ 256) (l : Fin 256) : EReal :=
  att (fun t : Fin 512 => (∑ x : Fin 64, q (ix2 r (⟨o + x.val, by omega⟩ : Fin 256)) * k (ix2 t (⟨o + x.val, by omega⟩ : Fin 256))) * Ideal.ofBits .f32 0x3E000000#32)
    (fun t => v (ix2 t l))

/-- A head at an entry. -/
theorem headK_apply (o : ℕ) (h : S512x256.Slices ![0, o] S512x64) (ho : o + 64 ≤ 256) (q k v : FVec Ideal S512x256 .bf16) (r : Fin 512) (d : Fin 64) :
    headK o h q k v (ix2 r d) = ctx q k v r o ho (⟨o + d.val, by omega⟩ : Fin 256) := by
  unfold ctx att rowSum rowMax
  pointwise [headK]

/-- The context at an entry whose column `l` lies in the head whose columns start at `o`. -/
theorem ctx_off (q k v : FVec Ideal S512x256 .bf16) (r : Fin 512) (o o' : ℕ) (ho : o + 64 ≤ 256) (ho' : o' + 64 ≤ 256) (l l' : Fin 256)
    (e : o = o') (el : l.val = l'.val) : ctx q k v r o ho l = ctx q k v r o' ho' l' := by
  subst e
  rw [Fin.ext el]

/-- The stored context at an entry, from the gathered rows. -/
theorem pay43_apply (a b c : Vec Ideal S8x1x64x256 .bf16) (p : Fin 8) (i : Fin 64) (l : Fin 256) :
    k0_pay43 (k0_pay38 a) (k0_pay39 b) (k0_pay40 c) (k0_pay41 a b c) (k0_pay42 a b c) (ix3 p i l)
      = ctx (k0_pay38 a) (k0_pay39 b) (k0_pay40 c) (⟨p.val * 64 + i.val, by omega⟩ : Fin 512) (l.val / 64 * 64) (by omega) l := by
  rw [pay43_heads, pay41_head, pay42_head]
  generalize k0_pay38 a = q
  generalize k0_pay39 b = k
  generalize k0_pay40 c = v
  pointwise
  by_cases h0 : l.val < 64
  · rw [dif_pos h0, headK_apply 0 _ (by omega)]
    exact ctx_off _ _ _ _ _ _ _ _ _ _ (by omega) (by simp)
  rw [dif_neg h0]
  by_cases h1 : l.val - 64 < 64
  · rw [dif_pos h1, headK_apply 64 _ (by omega)]
    exact ctx_off _ _ _ _ _ _ _ _ _ _ (by omega) (by show 64 + (l.val - 64) = l.val; omega)
  rw [dif_neg h1]
  by_cases h2 : l.val - 64 - 64 < 64
  · rw [dif_pos h2, headK_apply 128 _ (by omega)]
    exact ctx_off _ _ _ _ _ _ _ _ _ _ (by omega) (by show 128 + (l.val - 64 - 64) = l.val; omega)
  rw [dif_neg h2, headK_apply 192 _ (by omega)]
  exact ctx_off _ _ _ _ _ _ _ _ _ _ (by omega) (by show 192 + (l.val - 64 - 64 - 64) = l.val; omega)

/-- A gathered row, by its piece and its place there. -/
theorem pay38_apply (a : Vec Ideal S8x1x64x256 .bf16) (r : Fin 512) (l : Fin 256) :
    k0_pay38 a (ix2 r l) = a (ix4 (⟨r.val / 64, by omega⟩ : Fin 8) 0 (⟨r.val % 64, by omega⟩ : Fin 64) l) := by
  pointwise [k0_pay38]

/-- The same for keys. -/
theorem pay39_apply (a : Vec Ideal S8x1x64x256 .bf16) (r : Fin 512) (l : Fin 256) :
    k0_pay39 a (ix2 r l) = a (ix4 (⟨r.val / 64, by omega⟩ : Fin 8) 0 (⟨r.val % 64, by omega⟩ : Fin 64) l) := by
  pointwise [k0_pay39]

/-- The same for values. -/
theorem pay40_apply (a : Vec Ideal S8x1x64x256 .bf16) (r : Fin 512) (l : Fin 256) :
    k0_pay40 a (ix2 r l) = a (ix4 (⟨r.val / 64, by omega⟩ : Fin 8) 0 (⟨r.val % 64, by omega⟩ : Fin 64) l) := by
  pointwise [k0_pay40]

/-- A projected query row. -/
theorem pay2_apply (w : Vec Ideal S512x256 .f32) (x : Vec Ideal S1x256x512 .f32) (i l : Fin 256) :
    k0_pay2 w x (ix2 i l) = ∑ k : Fin 512, x (ix3 0 i k) * w (ix2 k l) := by
  pointwise [k0_pay2, k0_pay1]

/-- A key or value row, its four heads side by side. -/
theorem pay4_apply (x : Vec Ideal S1x64x4x64 .f32) (i : Fin 64) (l : Fin 256) :
    k0_pay4 x (ix4 0 0 i l) = x (ix4 0 i (⟨l.val / 64, by omega⟩ : Fin 4) (⟨l.val % 64, by omega⟩ : Fin 64)) := by
  pointwise [k0_pay4]

/-! ## Reads of the buffers -/

variable (m : (ℓ : Loc nD τ sig) → Buf (Elt Ideal) ℓ) (ρ : Dev nD → PrngReg)

/-- The five arguments of device `c`. -/
def aX (c : Dev nD) : FVec Ideal S2x256x512 .f32 := m ((c.tc : Thread nD τ).loc main_arg0)
/-- The query weights. -/
def aWq (c : Dev nD) : FVec Ideal S512x256 .f32 := m ((c.tc : Thread nD τ).loc main_arg1)
/-- The keys. -/
def aK (c : Dev nD) : FVec Ideal S2x256x4x64 .f32 := m ((c.tc : Thread nD τ).loc main_arg2)
/-- The values. -/
def aV (c : Dev nD) : FVec Ideal S2x256x4x64 .f32 := m ((c.tc : Thread nD τ).loc main_arg3)
/-- The output weights. -/
def aWo (c : Dev nD) : FVec Ideal S256x512 .f32 := m ((c.tc : Thread nD τ).loc main_arg4)

/-- The staged inputs are the arguments. -/
theorem xs_eq (c : Dev nD) : xs m c = aX m c :=
  Memref.read_access_unit_zero (Elt Ideal) main_arg0 (off := fun a => win0_0.index (0 : Fin 1) a * main_arg0.ty.shape.size a)
    (funext fun a => by fin_cases a <;> decide) (fun a => by fin_cases a <;> decide) _
/-- The staged query weights are the argument. -/
theorem wqs_eq (c : Dev nD) : wqs m c = aWq m c :=
  Memref.read_access_unit_zero (Elt Ideal) main_arg1 (off := fun a => win0_1.index (0 : Fin 1) a * main_arg1.ty.shape.size a)
    (funext fun a => by fin_cases a <;> decide) (fun a => by fin_cases a <;> decide) _
/-- The staged keys are the argument. -/
theorem ks_eq (c : Dev nD) : ks m c = aK m c :=
  Memref.read_access_unit_zero (Elt Ideal) main_arg2 (off := fun a => win0_2.index (0 : Fin 1) a * main_arg2.ty.shape.size a)
    (funext fun a => by fin_cases a <;> decide) (fun a => by fin_cases a <;> decide) _
/-- The staged values are the argument. -/
theorem vs_eq (c : Dev nD) : vs m c = aV m c :=
  Memref.read_access_unit_zero (Elt Ideal) main_arg3 (off := fun a => win0_3.index (0 : Fin 1) a * main_arg3.ty.shape.size a)
    (funext fun a => by fin_cases a <;> decide) (fun a => by fin_cases a <;> decide) _
/-- The staged output weights are the argument. -/
theorem wos_eq (c : Dev nD) : wos m c = aWo m c :=
  Memref.read_access_unit_zero (Elt Ideal) main_arg4 (off := fun a => win0_4.index (0 : Fin 1) a * main_arg4.ty.shape.size a)
    (funext fun a => by fin_cases a <;> decide) (fun a => by fin_cases a <;> decide) _

/-- One batch of the staged rows, as the kernel loads it. -/
theorem read_x (b : ℕ) (hb : b < 2) (h) (f : FVec Ideal S2x256x512 .f32) (i : Fin 256) (k : Fin 512) :
    ((xM : Memref sig .tc .vmem S2x256x512 .f32).view.readAt (Elt Ideal) (Rect.unit (s := S2x256x512) ![b, 0, 0] S1x256x512.size h).toLoadRect f
      : Vec Ideal S1x256x512 .f32) (ix3 0 i k) = f (ix3 (⟨b, hb⟩ : Fin 2) i k) := by
  show f _ = f _
  congr 1
  funext a
  fin_cases a <;> refine Fin.ext ?_
  · show b + 1 * 0 = b; omega
  · show 0 + 1 * i.val = i.val; omega
  · show 0 + 1 * k.val = k.val; omega

/-- The query weights, as the kernel loads them. -/
theorem read_wq (h) (f : FVec Ideal S512x256 .f32) (k : Fin 512) (l : Fin 256) :
    ((wqM : Memref sig .tc .vmem S512x256 .f32).view.readAt (Elt Ideal) (Rect.unit (s := S512x256) ![0, 0] S512x256.size h).toLoadRect f
      : Vec Ideal S512x256 .f32) (ix2 k l) = f (ix2 k l) := by
  show f _ = f _
  congr 1
  funext a
  fin_cases a <;> refine Fin.ext ?_
  · show 0 + 1 * k.val = k.val; omega
  · show 0 + 1 * l.val = l.val; omega

/-- The output weights, as the kernel loads them. -/
theorem read_wout (h) (f : FVec Ideal S256x512 .f32) (k : Fin 256) (l : Fin 512) :
    ((woM : Memref sig .tc .vmem S256x512 .f32).view.readAt (Elt Ideal) (Rect.unit (s := S256x512) ![0, 0] S256x512.size h).toLoadRect f
      : Vec Ideal S256x512 .f32) (ix2 k l) = f (ix2 k l) := by
  show f _ = f _
  congr 1
  funext a
  fin_cases a <;> refine Fin.ext ?_
  · show 0 + 1 * k.val = k.val; omega
  · show 0 + 1 * l.val = l.val; omega

/-- Sixty-four key rows, as the kernel loads them. -/
theorem read_k (b r : ℕ) (hb : b < 2) (hr : r < 4) (h) (f : FVec Ideal S2x256x4x64 .f32) (i : Fin 64) (g : Fin 4) (e : Fin 64) :
    ((kM : Memref sig .tc .vmem S2x256x4x64 .f32).view.readAt (Elt Ideal) (Rect.unit (s := S2x256x4x64) ![b, 64 * r, 0, 0] S1x64x4x64.size h).toLoadRect f
      : Vec Ideal S1x64x4x64 .f32) (ix4 0 i g e) = f (ix4 (⟨b, hb⟩ : Fin 2) (⟨64 * r + i.val, by omega⟩ : Fin 256) g e) := by
  show f _ = f _
  congr 1
  funext a
  fin_cases a <;> refine Fin.ext ?_
  · show b + 1 * 0 = b; omega
  · show 64 * r + 1 * i.val = 64 * r + i.val; omega
  · show 0 + 1 * g.val = g.val; omega
  · show 0 + 1 * e.val = e.val; omega

/-- Sixty-four value rows, as the kernel loads them. -/
theorem read_v (b r : ℕ) (hb : b < 2) (hr : r < 4) (h) (f : FVec Ideal S2x256x4x64 .f32) (i : Fin 64) (g : Fin 4) (e : Fin 64) :
    ((vM : Memref sig .tc .vmem S2x256x4x64 .f32).view.readAt (Elt Ideal) (Rect.unit (s := S2x256x4x64) ![b, 64 * r, 0, 0] S1x64x4x64.size h).toLoadRect f
      : Vec Ideal S1x64x4x64 .f32) (ix4 0 i g e) = f (ix4 (⟨b, hb⟩ : Fin 2) (⟨64 * r + i.val, by omega⟩ : Fin 256) g e) :=
  read_k b r hb hr h f i g e

/-- The staged query piece for device `d`: rows of its batch and class, projected. -/
theorem qpay_apply (c d : Dev nD) (i : Fin 64) (l : Fin 256) :
    qpay m c d (ix4 0 0 i l) = ∑ k : Fin 512, aX m c (ix3 (⟨d.val / 4, divlt d⟩ : Fin 2) (⟨64 * (d.val % 4) + i.val, by have := modlt d; omega⟩ : Fin 256) k)
      * aWq m c (ix2 k l) := by
  unfold qpay
  rw [xs_eq, wqs_eq]
  have e : ∀ (y : FVec Ideal S256x256 .bf16) (h : S256x256.Slices ![64 * (d.val % 4), 0] S64x256),
      shapeCast S1x1x64x256 (extractStridedSlice S64x256 ![64 * (d.val % 4), 0] y h) shapeCasts_S64x256_S1x1x64x256 (ix4 0 0 i l)
        = y (ix2 (⟨64 * (d.val % 4) + i.val, by have := modlt d; omega⟩ : Fin 256) l) := fun y h => by
    pointwise
  rw [e, pay2_apply]
  refine Finset.sum_congr rfl fun k _ => ?_
  rw [read_x _ (divlt d), read_wq]

/-- The staged key piece for device `d`: rows of its batch and class. -/
theorem kpay_apply (c d : Dev nD) (i : Fin 64) (l : Fin 256) :
    kpay m c d (ix4 0 0 i l) = aK m c (ix4 (⟨d.val / 4, divlt d⟩ : Fin 2) (⟨64 * (d.val % 4) + i.val, by have := modlt d; omega⟩ : Fin 256)
      (⟨l.val / 64, by omega⟩ : Fin 4) (⟨l.val % 64, by omega⟩ : Fin 64)) := by
  unfold kpay
  rw [ks_eq, pay4_apply, read_k _ _ (divlt d) (modlt d)]

/-- The staged value piece for device `d`. -/
theorem vpay_apply (c d : Dev nD) (i : Fin 64) (l : Fin 256) :
    vpay m c d (ix4 0 0 i l) = aV m c (ix4 (⟨d.val / 4, divlt d⟩ : Fin 2) (⟨64 * (d.val % 4) + i.val, by have := modlt d; omega⟩ : Fin 256)
      (⟨l.val / 64, by omega⟩ : Fin 4) (⟨l.val % 64, by omega⟩ : Fin 64)) := by
  unfold vpay
  rw [vs_eq, pay4_apply, read_v _ _ (divlt d) (modlt d)]

/-- What device `c` gathered at piece `p` is what device `p` staged for it. -/
theorem part_apply (c : Dev nD) (a : Fin 3) (p : Fin 8) (i : Fin 64) (l : Fin 256) :
    part m c a (ix4 p 0 i l) = spay m p c a (ix4 0 0 i l) := by
  have e : part m c a (ix4 p 0 i l) = Wf m c (ix4 p a i l) := by
    show Wf m c _ = Wf m c _
    congr 1
    funext b
    fin_cases b <;> refine Fin.ext ?_
    · show 0 + 1 * p.val = p.val; omega
    · show a.val + 1 * 0 = a.val; omega
    · show 0 + 1 * i.val = i.val; omega
    · show 0 + 1 * l.val = l.val; omega
  rw [e]
  show spay m p c a (inPiece (row4 c (ix4 p a i l))) = _
  congr 1
  funext b
  fin_cases b <;> rfl

/-! ## The result -/

/-- The rows device `c` gathered, by the device they came from. -/
def gq (c : Dev nD) (r : Fin 512) (l : Fin 256) : EReal :=
  ∑ k : Fin 512, aX m (⟨r.val / 64, by omega⟩ : Fin 8) (ix3 (⟨c.val / 4, divlt c⟩ : Fin 2) (⟨64 * (c.val % 4) + r.val % 64, by have := modlt c; omega⟩ : Fin 256) k)
    * aWq m (⟨r.val / 64, by omega⟩ : Fin 8) (ix2 k l)
/-- The key rows device `c` gathered. -/
def gk (c : Dev nD) (r : Fin 512) (l : Fin 256) : EReal :=
  aK m (⟨r.val / 64, by omega⟩ : Fin 8) (ix4 (⟨c.val / 4, divlt c⟩ : Fin 2) (⟨64 * (c.val % 4) + r.val % 64, by have := modlt c; omega⟩ : Fin 256)
    (⟨l.val / 64, by omega⟩ : Fin 4) (⟨l.val % 64, by omega⟩ : Fin 64))
/-- The value rows device `c` gathered. -/
def gv (c : Dev nD) (r : Fin 512) (l : Fin 256) : EReal :=
  aV m (⟨r.val / 64, by omega⟩ : Fin 8) (ix4 (⟨c.val / 4, divlt c⟩ : Fin 2) (⟨64 * (c.val % 4) + r.val % 64, by have := modlt c; omega⟩ : Fin 256)
    (⟨l.val / 64, by omega⟩ : Fin 4) (⟨l.val % 64, by omega⟩ : Fin 64))

/-- The context device `c` computes, and the result it stores, at an entry. -/
def ctxAt (c p : Fin 8) (i : Fin 64) (l : Fin 256) : EReal := (Cf m c : FVec Ideal S8x64x256 .bf16) (ix3 p i l)
/-- The result device `c` stores, at an entry. -/
def outAt (c : Fin 8) (b : Fin 2) (i : Fin 256) (l : Fin 512) : EReal := (outF m c : FVec Ideal S2x256x512 .f32) (ix3 b i l)

/-- The context device `c` computes, as attention over the rows it gathered. -/
theorem Cf_apply (c : Dev nD) (p : Fin 8) (i : Fin 64) (l : Fin 256) :
    ctxAt m c p i l
      = att (fun t : Fin 512 => (∑ x : Fin 64, gq m c (⟨p.val * 64 + i.val, by omega⟩ : Fin 512) (⟨l.val / 64 * 64 + x.val, by omega⟩ : Fin 256)
          * gk m c t (⟨l.val / 64 * 64 + x.val, by omega⟩ : Fin 256)) * Ideal.ofBits .f32 0x3E000000#32) (fun t => gv m c t l) := by
  unfold ctxAt Cf
  rw [pay43_apply]
  unfold ctx
  simp only [pay38_apply, pay39_apply, pay40_apply, part_apply]
  simp only [spay, qpay_apply, kpay_apply, vpay_apply]
  rfl

/-- A row of the second landing buffer, as the kernel loads it: what device `p` computed for device `c`. -/
theorem brow_apply (c : Dev nD) (p : ℕ) (hp : p < 8) (h) (i : Fin 64) (l : Fin 256) :
    brow m c p h (ix3 0 i l) = ctxAt m (⟨p, hp⟩ : Fin 8) c i l := by
  have e : brow m c p h (ix3 0 i l) = Bf m c (ix3 (⟨p, hp⟩ : Fin 8) i l) := by
    show Bf m c _ = Bf m c _
    congr 1
    funext b
    fin_cases b <;> refine Fin.ext ?_
    · show p + 1 * 0 = p; omega
    · show 0 + 1 * i.val = i.val; omega
    · show 0 + 1 * l.val = l.val; omega
  rw [e]
  show Cf m _ _ = Cf m _ _
  congr 1
  funext b
  fin_cases b <;> rfl

/-- Four pieces of 64 rows on top of one another, at a row. -/
theorem stack_apply (Y : Fin 4 → Fin 64 → EReal) (y0 y1 y2 y3 : Fin 64 → EReal) (h0 : ∀ i, y0 i = Y 0 i) (h1 : ∀ i, y1 i = Y 1 i)
    (h2 : ∀ i, y2 i = Y 2 i) (h3 : ∀ i, y3 i = Y 3 i) (i : Fin 256) :
    (if h : i.val < 64 then y0 ⟨i.val, h⟩ else if h : i.val - 64 < 64 then y1 ⟨i.val - 64, h⟩
      else if h : i.val - 64 - 64 < 64 then y2 ⟨i.val - 64 - 64, h⟩ else y3 ⟨i.val - 64 - 64 - 64, by omega⟩)
      = Y (⟨i.val / 64, by omega⟩ : Fin 4) (⟨i.val % 64, by omega⟩ : Fin 64) := by
  have fe : ∀ (r r' : Fin 4) (k k' : Fin 64), r.val = r'.val → k.val = k'.val → Y r k = Y r' k' := fun r r' k k' hr hk => by
    rw [Fin.ext hr, Fin.ext hk]
  by_cases g0 : i.val < 64
  · rw [dif_pos g0, h0]
    exact fe _ _ _ _ (by show 0 = i.val / 64; omega) (by show i.val = i.val % 64; omega)
  rw [dif_neg g0]
  by_cases g1 : i.val - 64 < 64
  · rw [dif_pos g1, h1]
    exact fe _ _ _ _ (by show 1 = i.val / 64; omega) (by show i.val - 64 = i.val % 64; omega)
  rw [dif_neg g1]
  by_cases g2 : i.val - 64 - 64 < 64
  · rw [dif_pos g2, h2]
    exact fe _ _ _ _ (by show 2 = i.val / 64; omega) (by show i.val - 64 - 64 = i.val % 64; omega)
  rw [dif_neg g2, h3]
  exact fe _ _ _ _ (by show 3 = i.val / 64; omega) (by show i.val - 64 - 64 - 64 = i.val % 64; omega)

/-- The first batch of the result, from four landed pieces. -/
theorem pay56_apply (w : Vec Ideal S256x512 .f32) (y0 y1 y2 y3 : Vec Ideal S1x64x256 .bf16) (Y : Fin 4 → Fin 64 → Fin 256 → EReal)
    (h0 : ∀ i x, y0 (ix3 0 i x) = Y 0 i x) (h1 : ∀ i x, y1 (ix3 0 i x) = Y 1 i x) (h2 : ∀ i x, y2 (ix3 0 i x) = Y 2 i x)
    (h3 : ∀ i x, y3 (ix3 0 i x) = Y 3 i x) (i : Fin 256) (l : Fin 512) :
    k0_pay56 (k0_pay52 w) (k0_pay53 y0) (k0_pay54 y1) (k0_pay55 y2) y3 (ix3 0 i l)
      = ∑ x : Fin 256, Y (⟨i.val / 64, by omega⟩ : Fin 4) (⟨i.val % 64, by omega⟩ : Fin 64) x * w (ix2 x l) := by
  pointwise [k0_pay56, k0_pay52, k0_pay53, k0_pay54, k0_pay55]
  exact Finset.sum_congr rfl fun x _ => congrArg (· * w (ix2 x l))
    (stack_apply (fun r k => Y r k x) (fun k => y0 (ix3 0 k x)) (fun k => y1 (ix3 0 k x)) (fun k => y2 (ix3 0 k x)) (fun k => y3 (ix3 0 k x))
      (fun k => h0 k x) (fun k => h1 k x) (fun k => h2 k x) (fun k => h3 k x) i)

/-- The second batch is the same function of its pieces. -/
theorem pay57_eq (w : Vec Ideal S256x512 .f32) (y0 y1 y2 y3 : Vec Ideal S1x64x256 .bf16) :
    k0_pay57 (k0_pay52 w) y0 y1 y2 y3 = k0_pay56 (k0_pay52 w) (k0_pay53 y0) (k0_pay54 y1) (k0_pay55 y2) y3 := rfl

/-- The result of device `c` at an entry: row `i` of batch `b` comes from the context of device `4 b + i / 64`. -/
theorem outF_apply (c : Dev nD) (b : Fin 2) (i : Fin 256) (l : Fin 512) :
    outAt m c b i l
      = ∑ x : Fin 256, ctxAt m (⟨4 * b.val + i.val / 64, by omega⟩ : Fin 8) c (⟨i.val % 64, by omega⟩ : Fin 64) x
        * aWo m c (ix2 x l) := by
  have hw : ∀ x : Fin 256, wor m c (ix2 x l) = aWo m c (ix2 x l) := fun x => by
    unfold wor
    rw [wos_eq, read_wout]
  have hb : inBatch (ix3 b i l) = ix3 0 i l := by
    funext a
    fin_cases a <;> rfl
  unfold outAt outF
  rw [hb]
  fin_cases b
  · refine (if_pos rfl).trans ?_
    unfold out0
    rw [pay56_apply (wor m c) _ _ _ _ (fun r k x => ctxAt m (⟨r.val, by omega⟩ : Fin 8) c k x)
      (fun k x => brow_apply m c 0 (by decide) _ k x) (fun k x => brow_apply m c 1 (by decide) _ k x)
      (fun k x => brow_apply m c 2 (by decide) _ k x) (fun k x => brow_apply m c 3 (by decide) _ k x)]
    refine Finset.sum_congr rfl fun x _ => ?_
    rw [hw]
    refine congrArg (fun q : Fin 8 => ctxAt m q c (⟨i.val % 64, by omega⟩ : Fin 64) x * aWo m c (ix2 x l)) (Fin.ext ?_)
    show i.val / 64 = 4 * 0 + i.val / 64
    omega
  · refine (if_neg (show ¬ (1 : ℕ) = 0 by decide)).trans ?_
    unfold out1
    rw [pay57_eq, pay56_apply (wor m c) _ _ _ _ (fun r k x => ctxAt m (⟨4 + r.val, by omega⟩ : Fin 8) c k x)
      (fun k x => brow_apply m c 4 (by decide) _ k x) (fun k x => brow_apply m c 5 (by decide) _ k x)
      (fun k x => brow_apply m c 6 (by decide) _ k x) (fun k x => brow_apply m c 7 (by decide) _ k x)]
    refine Finset.sum_congr rfl fun x _ => ?_
    rw [hw]
    rfl

/-- The result array ends holding what the body left in its staging buffer. -/
theorem finalA_out (c : Dev nD) : finalA m ρ c (5 : Fin 6) = outF m c := by
  have h : (win0_5.blk (0 : Fin 1)).view.read (Elt Ideal) (finalA m ρ c (5 : Fin 6)) = outF m c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (Memref.read_access_unit_zero (Elt Ideal) main_v1 (off := fun a => win0_5.index (0 : Fin 1) a * main_v1.ty.shape.size a)
    (funext fun a => by fin_cases a <;> decide) (fun a => by fin_cases a <;> decide) _).symm.trans h

end Cert.KernelIdealProof

end
-- ==== Proof.ValueRef.lean ====
/-
The reference's result, in named stages and read at an index: the mask over blocks of 64 rows, the masked scores, the
softmax weights, and the two products that follow.
-/
module

public import proofs.«01_k».proof.Proof.Gen.ReferenceIdeal.Run
public import proofs.«01_k».proof.Proof.ValueMath
public import Idealize.ShloMosaic.Lib.Pointwise
public import Idealize.ShloMosaic.Lib.Routing.Words
public import Idealize.ShloMosaic.Lib.Routing.OpsOrder
public import Idealize.ShloMosaic.Lib.Tactic.WordOmega

@[expose] public section

set_option maxRecDepth 16384

noncomputable section

namespace Cert.ReferenceIdealProof

open Idealize.ShloMosaic Idealize.ShloMosaic.TcCoe Idealize.ShloMosaic.Routing
open Cert.AttnMath
open Cert.ReferenceIdeal Cert.ReferenceIdeal.Gen Cert.ReferenceIdeal.Facts

/-- The block number of each row: the row number divided by 64. -/
def divR : IVec S2048 32 := pyDiv bcast_S_S2048 (iotaInDim S2048 32 0) (id (constantI S_ 32 64#32))

/-- The class of each key row: its block number modulo 4. -/
def modK : IVec S1x2048 32 := pyRem bcast_S_S1x2048 (broadcastInDim S1x2048 ![1] bcast_S2048_S1x2048_1 divR) (id (constantI S_ 32 4#32))

/-- The class of each query row: its block number modulo 4. -/
def modQ : IVec S2048x1 32 := pyRem bcast_S_S2048x1 (broadcastInDim S2048x1 ![0] bcast_S2048_S2048x1_0 divR) (id (constantI S_ 32 4#32))

/-- The mask: the same block, or the same class. -/
def maskR : IVec S2048x2048 1 :=
  ori (cmpi .eq (broadcastInDim S2048x2048 ![0, 1] bcast_S2048x1_S2048x2048_0_1 (broadcastInDim S2048x1 ![0] bcast_S2048_S2048x1_0 divR))
      (broadcastInDim S2048x2048 ![0, 1] bcast_S1x2048_S2048x2048_0_1 (broadcastInDim S1x2048 ![1] bcast_S2048_S1x2048_1 divR)))
    (cmpi .eq (broadcastInDim S2048x2048 ![0, 1] bcast_S1x2048_S2048x2048_0_1 modK) (broadcastInDim S2048x2048 ![0, 1] bcast_S2048x1_S2048x2048_0_1 modQ))

/-- The rows that keep some key. -/
def keepR : IVec S1x1x2048x1 1 :=
  broadcastInDim S1x1x2048x1 ![2] bcast_S2048_S1x1x2048x1_2
    (Host.reduce IntOp.ori maskR (constantI S_ 1 0#1) reducesTo_S2048x2048_S2048_d1 h_S_)

/-- The scores, minus infinity outside the mask. -/
def scoreR (x : FVec Ideal S2x2048x512 .f32) (wq : FVec Ideal S512x256 .f32) (k : FVec Ideal S2x2048x4x64 .f32) : FVec Ideal S2x4x2048x2048 .f32 :=
  select (broadcastInDim S2x4x2048x2048 ![0, 1, 2, 3] bcast_S1x1x2048x2048_S2x4x2048x2048_0_1_2_3
      (broadcastInDim S1x1x2048x2048 ![2, 3] bcast_S2048x2048_S1x1x2048x2048_2_3 maskR))
    (mulf (Host.dotGeneral dot_S2x2048x4x64_S2x2048x4x64_S2x4x2048x2048_3_3_1_1_02_02 none
        (shapeCast _ (Host.dotGeneral dot_S2x2048x512_S512x256_S2x2048x256_2_0_01_1_n_n none x wq) shapeCasts_S2x2048x256_S2x2048x4x64) k)
      (broadcastInDim S2x4x2048x2048 ![] bcast_S_S2x4x2048x2048 (constant S_ .f32 0x3E000000#32)))
    (broadcastInDim S2x4x2048x2048 ![] bcast_S_S2x4x2048x2048 (id (constant S_ .f32 0xFF800000#32)))

/-- The exponentials of the scores less the row's largest. -/
def expR (s : FVec Ideal S2x4x2048x2048 .f32) : FVec Ideal S2x4x2048x2048 .f32 :=
  Host.exp (subf s (broadcastInDim S2x4x2048x2048 ![0, 1, 2, 3] bcast_S2x4x2048x1_S2x4x2048x2048_0_1_2_3
    (broadcastInDim S2x4x2048x1 ![0, 1, 2] bcast_S2x4x2048_S2x4x2048x1_0_1_2
      (Host.reduce FloatOps.maximumf s (constant S_ .f32 0xFF800000#32) reducesTo_S2x4x2048x2048_S2x4x2048_d3 h_S_))))

/-- The weights: the exponentials divided by their row's sum. -/
def weightR (kp : IVec S1x1x2048x1 1) (e : FVec Ideal S2x4x2048x2048 .f32) : FVec Ideal S2x4x2048x2048 .f32 :=
  select (broadcastInDim S2x4x2048x2048 ![0, 1, 2, 3] bcast_S1x1x2048x1_S2x4x2048x2048_0_1_2_3 kp)
    (Host.divf e (broadcastInDim S2x4x2048x2048 ![0, 1, 2, 3] bcast_S2x4x2048x1_S2x4x2048x2048_0_1_2_3
      (select (broadcastInDim S2x4x2048x1 ![0, 1, 2, 3] bcast_S1x1x2048x1_S2x4x2048x1_0_1_2_3 kp)
        (broadcastInDim S2x4x2048x1 ![0, 1, 2] bcast_S2x4x2048_S2x4x2048x1_0_1_2
          (Host.reduceAdd e (constant S_ .f32 0x00000000#32) reducesTo_S2x4x2048x2048_S2x4x2048_d3 h_S_))
        (broadcastInDim S2x4x2048x1 ![] bcast_S_S2x4x2048x1 (id (constant S_ .f32 0x3F800000#32))))))
    (broadcastInDim S2x4x2048x2048 ![] bcast_S_S2x4x2048x2048 (id (constant S_ .f32 0x00000000#32)))

/-- The result from the weights. -/
def outR (w : FVec Ideal S2x4x2048x2048 .f32) (v : FVec Ideal S2x2048x4x64 .f32) (wo : FVec Ideal S256x512 .f32) : FVec Ideal S2x2048x512 .f32 :=
  Host.dotGeneral dot_S2x2048x256_S256x512_S2x2048x512_2_0_01_1_n_n none
    (shapeCast _ (transpose S2x2048x4x64 [0, 3, 1, 2]
      (Host.dotGeneral dot_S2x2048x4x64_S2x4x2048x2048_S2x4x64x2048_1_3_3_2_02_01 none v w)
      transposes_S2x4x64x2048_S2x2048x4x64_0_3_1_2) shapeCasts_S2x2048x4x64_S2x2048x256) wo

/-- The reference's result, from the five arguments. -/
def refR (x : FVec Ideal S2x2048x512 .f32) (wq : FVec Ideal S512x256 .f32) (k v : FVec Ideal S2x2048x4x64 .f32) (wo : FVec Ideal S256x512 .f32) :
    FVec Ideal S2x2048x512 .f32 :=
  outR (weightR keepR (expR (scoreR x wq k))) v wo

/-- The run's result is that value of the arguments' contents. -/
theorem res_refR (m : (ℓ : Loc nD τ sig) → Buf (Elt Ideal) ℓ) (c : Dev nD) :
    Value.res_out0 m c = refR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The block number at a row. -/
theorem divR_apply (i : Fin 2048) : divR (ix1 i) = BitVec.ofNat 32 (i.val / 64) :=
  pyDiv_ap _ _ _ _ rfl rfl (by omega) (by decide) (by decide)

/-- The class at a key row. -/
theorem modK_apply (j : Fin 2048) : modK (ix2 0 j) = BitVec.ofNat 32 (j.val / 64 % 4) := by
  refine pyRem_ap _ _ _ _ ?_ rfl (by omega) (by decide) (by decide)
  rw [← divR_apply]
  pointwise

/-- The class at a query row. -/
theorem modQ_apply (i : Fin 2048) : modQ (ix2 i 0) = BitVec.ofNat 32 (i.val / 64 % 4) := by
  refine pyRem_ap _ _ _ _ ?_ rfl (by omega) (by decide) (by decide)
  rw [← divR_apply]
  pointwise

/-- Row `i` keeps key `j` exactly when they are of one class. -/
theorem maskR_apply (i j : Fin 2048) : maskR (ix2 i j) = 1#1 ↔ j.val / 64 % 4 = i.val / 64 % 4 := by
  pointwise [maskR]
  simp only [divR_apply, modK_apply, modQ_apply]
  word_omega

/-- Every row keeps some key: its own. -/
theorem keepR_apply (i : Fin 2048) : keepR (ix4 0 0 i 0) = 1#1 := by
  pointwise [keepR]
  exact (fold_ori _ _).2 ⟨i, Finset.mem_univ _, (maskR_apply i i).2 rfl⟩

/-- A score before the mask: the scaled product of the projected query row and the key row. -/
def rawR (x : FVec Ideal S2x2048x512 .f32) (wq : FVec Ideal S512x256 .f32) (k : FVec Ideal S2x2048x4x64 .f32)
    (b : Fin 2) (h : Fin 4) (i j : Fin 2048) : EReal :=
  (∑ d : Fin 64, (∑ l : Fin 512, x (ix3 b i l) * wq (ix2 l (⟨h.val * 64 + d.val, by omega⟩ : Fin 256))) * k (ix4 b j h d)) * Ideal.ofBits .f32 0x3E000000#32

/-- A score under the mask. -/
theorem scoreR_apply (x : FVec Ideal S2x2048x512 .f32) (wq : FVec Ideal S512x256 .f32) (k : FVec Ideal S2x2048x4x64 .f32)
    (b : Fin 2) (h : Fin 4) (i j : Fin 2048) :
    scoreR x wq k (ix4 b h i j) = if j.val / 64 % 4 = i.val / 64 % 4 then rawR x wq k b h i j else ⊥ := by
  pointwise [scoreR]
  by_cases hm : j.val / 64 % 4 = i.val / 64 % 4
  · rw [(maskR_apply i j).2 hm, if_pos hm]
    rfl
  · rw [(BitVec.eq_zero_or_eq_one (maskR (ix2 i j))).resolve_right fun h1 => hm ((maskR_apply i j).1 h1), if_neg hm]
    exact negInf

/-- An exponential of the score less its row's largest. -/
theorem expR_apply (s : FVec Ideal S2x4x2048x2048 .f32) (b : Fin 2) (h : Fin 4) (i j : Fin 2048) :
    expR s (ix4 b h i j) = Ideal.exp (s (ix4 b h i j) - rowMax fun u : Fin 2048 => s (ix4 b h i u)) := by
  unfold rowMax
  pointwise [expR]

/-- A weight: the exponential over its row's sum. -/
theorem weightR_apply (kp : IVec S1x1x2048x1 1) (e : FVec Ideal S2x4x2048x2048 .f32) (b : Fin 2) (h : Fin 4) (i j : Fin 2048)
    (hk : kp (ix4 0 0 i 0) = 1#1) :
    weightR kp e (ix4 b h i j) = Ideal.div (e (ix4 b h i j)) (∑ u : Fin 2048, e (ix4 b h i u)) := by
  pointwise [weightR]
  rw [hk]
  rfl

/-- The result at an entry, from the weights. -/
theorem outR_apply (w : FVec Ideal S2x4x2048x2048 .f32) (v : FVec Ideal S2x2048x4x64 .f32) (wo : FVec Ideal S256x512 .f32)
    (b : Fin 2) (i : Fin 2048) (l : Fin 512) :
    outR w v wo (ix3 b i l) = ∑ x : Fin 256, (∑ j : Fin 2048, v (ix4 b j (⟨x.val / 64, by omega⟩ : Fin 4) (⟨x.val % 64, by omega⟩ : Fin 64))
      * w (ix4 b (⟨x.val / 64, by omega⟩ : Fin 4) i j)) * wo (ix2 x l) := by
  pointwise [outR]

/-- The reference's result at an entry: each of the 256 context columns is the masked softmax row against the values. -/
theorem refR_apply (x : FVec Ideal S2x2048x512 .f32) (wq : FVec Ideal S512x256 .f32) (k v : FVec Ideal S2x2048x4x64 .f32) (wo : FVec Ideal S256x512 .f32)
    (b : Fin 2) (i : Fin 2048) (l : Fin 512) :
    refR x wq k v wo (ix3 b i l) = ∑ c : Fin 256,
      att (fun j : Fin 2048 => if j.val / 64 % 4 = i.val / 64 % 4 then rawR x wq k b (⟨c.val / 64, by omega⟩ : Fin 4) i j else ⊥)
        (fun j => v (ix4 b j (⟨c.val / 64, by omega⟩ : Fin 4) (⟨c.val % 64, by omega⟩ : Fin 64))) * wo (ix2 c l) := by
  unfold refR
  rw [outR_apply]
  refine Finset.sum_congr rfl fun c _ => congrArg (· * wo (ix2 c l)) ?_
  refine Finset.sum_congr rfl fun j _ => ?_
  rw [weightR_apply _ _ _ _ _ _ (keepR_apply i), mul_comm]
  simp only [expR_apply, scoreR_apply]
  rfl

end Cert.ReferenceIdealProof

end
-- ==== Proof.ValueEq.lean ====
/-
The kernel's result is the reference's: device `4 b + s` holds exactly the rows of batch `b` whose block number is `s`
modulo 4, which are the rows the mask keeps, so its attention over 512 rows is the reference's masked attention over 2048.
-/
module

public import proofs.«01_k».proof.Proof.ValueKernel
public import proofs.«01_k».proof.Proof.ValueRef
public import Idealize.ShloMosaic.Lib.ReduceAll

@[expose] public section

set_option maxRecDepth 16384

noncomputable section

namespace Cert.ValueEq

open Idealize.ShloMosaic Idealize.ShloMosaic.TcCoe
open Cert.AttnMath Cert.KernelIdealProof Cert.ReferenceIdealProof

/-- The devices' arguments are the blocks of 256 rows of the whole arrays, the weights the same everywhere. -/
structure Agree (m : (ℓ : Loc Cert.KernelIdeal.nD Cert.KernelIdeal.τ Cert.KernelIdeal.sig) → Buf (Elt Ideal) ℓ)
    (x : FVec Ideal Cert.ReferenceIdeal.S2x2048x512 .f32) (wq : FVec Ideal Cert.ReferenceIdeal.S512x256 .f32)
    (k v : FVec Ideal Cert.ReferenceIdeal.S2x2048x4x64 .f32) (wo : FVec Ideal Cert.ReferenceIdeal.S256x512 .f32) : Prop where
  hx : ∀ (c : Fin 8) (b : Fin 2) (i : Fin 256) (l : Fin 512), aX m c (ix3 b i l) = x (ix3 b (⟨c.val * 256 + i.val, by omega⟩ : Fin 2048) l)
  hwq : ∀ (c : Fin 8) (i : Fin 512) (l : Fin 256), aWq m c (ix2 i l) = wq (ix2 i l)
  hk : ∀ (c : Fin 8) (b : Fin 2) (i : Fin 256) (h : Fin 4) (d : Fin 64), aK m c (ix4 b i h d) = k (ix4 b (⟨c.val * 256 + i.val, by omega⟩ : Fin 2048) h d)
  hv : ∀ (c : Fin 8) (b : Fin 2) (i : Fin 256) (h : Fin 4) (d : Fin 64), aV m c (ix4 b i h d) = v (ix4 b (⟨c.val * 256 + i.val, by omega⟩ : Fin 2048) h d)
  hwo : ∀ (c : Fin 8) (i : Fin 256) (l : Fin 512), aWo m c (ix2 i l) = wo (ix2 i l)

section

variable {m : (ℓ : Loc Cert.KernelIdeal.nD Cert.KernelIdeal.τ Cert.KernelIdeal.sig) → Buf (Elt Ideal) ℓ}
  {x : FVec Ideal Cert.ReferenceIdeal.S2x2048x512 .f32} {wq : FVec Ideal Cert.ReferenceIdeal.S512x256 .f32}
  {k v : FVec Ideal Cert.ReferenceIdeal.S2x2048x4x64 .f32} {wo : FVec Ideal Cert.ReferenceIdeal.S256x512 .f32}

/-- The row of the whole array that a device of class `s` holds at gathered row `t`. -/
def rowOf (s : Fin 4) (t : Fin 512) : Fin 2048 := ⟨t.val / 64 * 256 + (64 * s.val + t.val % 64), by omega⟩

/-- Two gathered rows are two rows. -/
theorem rowOf_injective (s : Fin 4) : Function.Injective (rowOf s) := fun t u h => by
  have e : t.val / 64 * 256 + (64 * s.val + t.val % 64) = u.val / 64 * 256 + (64 * s.val + u.val % 64) := congrArg Fin.val h
  exact Fin.ext (by omega)

/-- A gathered row is of the device's class. -/
theorem rowOf_class (s : Fin 4) (t : Fin 512) : (rowOf s t).val / 64 % 4 = s.val := by
  show (t.val / 64 * 256 + (64 * s.val + t.val % 64)) / 64 % 4 = s.val
  omega

/-- Every row of that class is gathered. -/
theorem mem_rowOf (s : Fin 4) (j : Fin 2048) (hj : j.val / 64 % 4 = s.val) : j ∈ Set.range (rowOf s) :=
  ⟨⟨j.val / 256 * 64 + j.val % 64, by omega⟩, Fin.ext (by
    show (j.val / 256 * 64 + j.val % 64) / 64 * 256 + (64 * s.val + (j.val / 256 * 64 + j.val % 64) % 64) = j.val
    omega)⟩

/-- A gathered query row is the projected row of the whole array. -/
theorem gq_eq (A : Agree m x wq k v wo) (D : Fin 8) (b : Fin 2) (s : Fin 4) (hb : D.val / 4 = b.val) (hs : D.val % 4 = s.val) (r : Fin 512) (l : Fin 256) :
    gq m D r l = ∑ u : Fin 512, x (ix3 b (rowOf s r) u) * wq (ix2 u l) := by
  unfold gq
  refine Finset.sum_congr rfl fun u _ => ?_
  rw [A.hx, A.hwq]
  refine congrArg (· * wq (ix2 u l)) (congrArg₂ (fun (p : Fin 2) (q : Fin 2048) => x (ix3 p q u)) (Fin.ext hb) (Fin.ext ?_))
  show r.val / 64 * 256 + (64 * (D.val % 4) + r.val % 64) = r.val / 64 * 256 + (64 * s.val + r.val % 64)
  rw [hs]

/-- A gathered key row is the row of the whole array, its four heads side by side. -/
theorem gk_eq (A : Agree m x wq k v wo) (D : Fin 8) (b : Fin 2) (s : Fin 4) (hb : D.val / 4 = b.val) (hs : D.val % 4 = s.val) (r : Fin 512) (l : Fin 256) :
    gk m D r l = k (ix4 b (rowOf s r) (⟨l.val / 64, by omega⟩ : Fin 4) (⟨l.val % 64, by omega⟩ : Fin 64)) := by
  unfold gk
  rw [A.hk]
  refine congrArg₂ (fun (p : Fin 2) (q : Fin 2048) => k (ix4 p q (⟨l.val / 64, by omega⟩ : Fin 4) (⟨l.val % 64, by omega⟩ : Fin 64))) (Fin.ext hb) (Fin.ext ?_)
  show r.val / 64 * 256 + (64 * (D.val % 4) + r.val % 64) = r.val / 64 * 256 + (64 * s.val + r.val % 64)
  rw [hs]

/-- A gathered value row likewise. -/
theorem gv_eq (A : Agree m x wq k v wo) (D : Fin 8) (b : Fin 2) (s : Fin 4) (hb : D.val / 4 = b.val) (hs : D.val % 4 = s.val) (r : Fin 512) (l : Fin 256) :
    gv m D r l = v (ix4 b (rowOf s r) (⟨l.val / 64, by omega⟩ : Fin 4) (⟨l.val % 64, by omega⟩ : Fin 64)) := by
  unfold gv
  rw [A.hv]
  refine congrArg₂ (fun (p : Fin 2) (q : Fin 2048) => v (ix4 p q (⟨l.val / 64, by omega⟩ : Fin 4) (⟨l.val % 64, by omega⟩ : Fin 64))) (Fin.ext hb) (Fin.ext ?_)
  show r.val / 64 * 256 + (64 * (D.val % 4) + r.val % 64) = r.val / 64 * 256 + (64 * s.val + r.val % 64)
  rw [hs]

/-- Scores of real rows are real. -/
theorem rawR_real (rx : ∀ b i l, ∃ r : ℝ, x (ix3 b i l) = r) (rwq : ∀ i l, ∃ r : ℝ, wq (ix2 i l) = r) (rk : ∀ b i h d, ∃ r : ℝ, k (ix4 b i h d) = r)
    (b : Fin 2) (h : Fin 4) (i j : Fin 2048) : ∃ r : ℝ, rawR x wq k b h i j = r :=
  real_mul (real_sum _ fun d => real_mul (real_sum _ fun l => real_mul (rx b i l) (rwq l _)) (rk b j h d)) ⟨_, scale_real⟩

/-- THE VALUE: device `c`'s result is its block of 256 rows of the reference's. -/
theorem value_eq (A : Agree m x wq k v wo) (rx : ∀ b i l, ∃ r : ℝ, x (ix3 b i l) = r) (rwq : ∀ i l, ∃ r : ℝ, wq (ix2 i l) = r)
    (rk : ∀ b i h d, ∃ r : ℝ, k (ix4 b i h d) = r) (c : Fin 8) (b : Fin 2) (i : Fin 256) (l : Fin 512) :
    outAt m c b i l = refR x wq k v wo (ix3 b (⟨c.val * 256 + i.val, by omega⟩ : Fin 2048) l) := by
  rw [outF_apply, refR_apply]
  refine Finset.sum_congr rfl fun y _ => ?_
  rw [A.hwo, Cf_apply]
  refine congrArg (· * wo (ix2 y l)) (Eq.symm ?_)
  have hb : (4 * b.val + i.val / 64) / 4 = b.val := by omega
  have hs : (4 * b.val + i.val / 64) % 4 = i.val / 64 := by omega
  have hI : rowOf (⟨i.val / 64, by omega⟩ : Fin 4) (⟨c.val * 64 + i.val % 64, by omega⟩ : Fin 512) = (⟨c.val * 256 + i.val, by omega⟩ : Fin 2048) :=
    Fin.ext (by show (c.val * 64 + i.val % 64) / 64 * 256 + (64 * (i.val / 64) + (c.val * 64 + i.val % 64) % 64) = c.val * 256 + i.val; omega)
  have hcl : (c.val * 256 + i.val) / 64 % 4 = i.val / 64 := by omega
  have hf : ∀ t : Fin 512, (∑ d : Fin 64, gq m (⟨4 * b.val + i.val / 64, by omega⟩ : Fin 8) (⟨c.val * 64 + i.val % 64, by omega⟩ : Fin 512) (⟨y.val / 64 * 64 + d.val, by omega⟩ : Fin 256)
        * gk m (⟨4 * b.val + i.val / 64, by omega⟩ : Fin 8) t (⟨y.val / 64 * 64 + d.val, by omega⟩ : Fin 256)) * Ideal.ofBits .f32 0x3E000000#32
      = rawR x wq k b (⟨y.val / 64, by omega⟩ : Fin 4) (⟨c.val * 256 + i.val, by omega⟩ : Fin 2048) (rowOf (⟨i.val / 64, by omega⟩ : Fin 4) t) := fun t => by
    unfold rawR
    refine congrArg (· * (Ideal.ofBits .f32 0x3E000000#32 : EReal)) (Finset.sum_congr rfl fun d _ => ?_)
    rw [gq_eq A _ b (⟨i.val / 64, by omega⟩ : Fin 4) hb hs, gk_eq A _ b (⟨i.val / 64, by omega⟩ : Fin 4) hb hs, hI]
    refine congrArg (_ * ·) (congrArg₂ (fun (p : Fin 4) (q : Fin 64) => k (ix4 b _ p q)) (Fin.ext ?_) (Fin.ext ?_))
    · show (y.val / 64 * 64 + d.val) / 64 = y.val / 64; omega
    · show (y.val / 64 * 64 + d.val) % 64 = d.val; omega
  refine att_restrict (by decide) (rowOf (⟨i.val / 64, by omega⟩ : Fin 4)) (rowOf_injective _) _ _ _ _ (fun t => ?_) (fun t => ?_) (fun j hj => ?_) fun t => ?_
  · rw [hf]
    exact rawR_real rx rwq rk _ _ _ _
  · rw [hf]
    exact if_pos ((rowOf_class _ t).trans hcl.symm)
  · exact if_neg fun h => hj (mem_rowOf _ j (h.trans hcl))
  · exact (gv_eq A _ b (⟨i.val / 64, by omega⟩ : Fin 4) hb hs t y).symm

end

/-! ## The precondition read back -/

/-- An array that passes `jnp.all(jnp.abs(x) < jnp.inf)` holds reals. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩) (hu : 0 < (⟨0, ![]⟩ : Shape).numel)
    (j : (⟨0, ![]⟩ : Shape).Idx)
    (e : Host.reduce IntOp.andi (cmpf .olt (Host.absf x) (broadcastInDim s ![] hb (constant ⟨0, ![]⟩ .f32 0x7F800000#32))) (constantI ⟨0, ![]⟩ 1 1#1) hr hu j = 1#1)
    (i : s.Idx) : ∃ r : ℝ, x i = r := by
  haveI : Subsingleton (⟨0, ![]⟩ : Shape).Idx := ⟨fun a b => funext fun q => q.elim0⟩
  have h := Host.reduce_andi_all _ _ hr hu j e i
  have h' : Ideal.cmp .olt (max (x i) (-(x i))) (Ideal.ofBits .f32 0x7F800000#32) = 1#1 := h
  rw [posInf] at h'
  refine real_of_abs_lt ?_
  by_contra hn
  rw [show Ideal.cmp .olt (max (x i) (-(x i))) ⊤ = BitVec.ofBool (decide (max (x i) (-(x i)) < ⊤)) from rfl, decide_eq_false hn] at h'
  exact absurd h' (by decide)

end Cert.ValueEq

end
-- ==== Proof.Algebraic.lean ====
/-
The claim that the kernel computes the reference's function on exact numbers, from the two runs and the value equation.
-/
module

public import proofs.«01_k».proof.Defs
public import proofs.«01_k».proof.Proof.ValueEq

@[expose] public section

set_option maxRecDepth 16384

noncomputable section

namespace Cert.Proof

open Idealize.ShloMosaic Idealize.ShloMosaic.TcCoe Idealize.SL.Sem
open Cert.AttnMath Cert.KernelIdealProof Cert.ReferenceIdealProof Cert.ValueEq

/-- The side conditions of the precondition, stated for the kernel's arguments. -/
theorem pre_facts_kernel : Cert.Pre_finite_KernelIdeal.Facts :=
  ⟨by decide, by decide, by decide, by decide, by decide, by decide, by decide⟩

/-- The side conditions of the precondition, stated for the reference's arguments. -/
theorem pre_facts_reference : Cert.Pre_finite_ReferenceIdeal.Facts :=
  ⟨by decide, by decide, by decide, by decide, by decide, by decide, by decide⟩

/-- Under the precondition each device's rows, query weights and keys are real. -/
theorem real_of_pre [Cert.Pre_finite_KernelIdeal.Facts]
    (m : (ℓ : Loc Cert.KernelIdeal.nD Cert.KernelIdeal.τ Cert.KernelIdeal.sig) → Buf (Elt Ideal) ℓ) (h : Cert.Pre_KernelIdeal_finite_KernelIdeal m)
    (c : Fin 8) : (∀ i, ∃ r : ℝ, aX m c i = r) ∧ (∀ i, ∃ r : ℝ, aWq m c i = r) ∧ ∀ i, ∃ r : ℝ, aK m c i = r := by
  have e := congrFun (h c) (fun a => a.elim0)
  unfold Cert.Pre_finite_KernelIdeal.fn at e
  obtain ⟨e01, e2⟩ := IntOp.andi_eq_one.1 e
  obtain ⟨e0, e1⟩ := IntOp.andi_eq_one.1 e01
  exact ⟨real_of_all _ _ _ _ _ e0, real_of_all _ _ _ _ _ e1, real_of_all _ _ _ _ _ e2⟩

/-- An index of three coordinates, by its coordinates. -/
theorem idx3 (j : (⟨3, ![2, 256, 512]⟩ : Shape).Idx) : j = ix3 (j 0 : Fin 2) (j 1 : Fin 256) (j 2 : Fin 512) := by
  funext a
  fin_cases a <;> rfl

/-- The kernel, on eight devices, computes the reference's function: from memories that agree, each device's result is its
    block of 256 rows of the reference's. -/
theorem algebraic [Cert.Pre_finite_KernelIdeal.Facts] : Cert.algebraic_KernelIdeal_ReferenceIdeal_pre_finite_KernelIdeal := by
  intro m ρ m' ρ' hpre hag
  have A : Agree m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3))
      (m' (((0 : Dev Cert.ReferenceIdeal.nD).tc : Thread _ Cert.ReferenceIdeal.τ).loc Cert.ReferenceIdeal.main_arg4)) := by
    refine ⟨fun c b i l => ?_, fun c i l => ?_, fun c b i h d => ?_, fun c b i h d => ?_, fun c i l => ?_⟩
    · refine (congrFun (hag c).1 (ix3 b i l)).trans (congrArg (m' _) (funext fun a => ?_))
      fin_cases a <;> rfl
    · exact congrFun (hag c).2.1 (ix2 i l)
    · refine (congrFun (hag c).2.2.1 (ix4 b i h d)).trans (congrArg (m' _) (funext fun a => ?_))
      fin_cases a <;> rfl
    · refine (congrFun (hag c).2.2.2.1 (ix4 b i h d)).trans (congrArg (m' _) (funext fun a => ?_))
      fin_cases a <;> rfl
    · exact congrFun (hag c).2.2.2.2 (ix2 i l)
  have row : ∀ i : Fin 2048, (⟨i.val / 256 * 256 + i.val % 256, by omega⟩ : Fin 2048) = i := fun i =>
    Fin.ext (by show i.val / 256 * 256 + i.val % 256 = i.val; omega)
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c 5).trans ((finalA_out m ρ c).trans (funext fun j => ?_)),
      (h.1 c 0).trans (finalA_in m ρ c 0 rfl), (h.1 c 1).trans (finalA_in m ρ c 1 rfl), (h.1 c 2).trans (finalA_in m ρ c 2 rfl),
      (h.1 c 3).trans (finalA_in m ρ c 3 rfl), (h.1 c 4).trans (finalA_in m ρ c 4 rfl)⟩) (run_main (F := Ideal) m ρ)
  have v := value_eq A
    (fun b i l => by
      obtain ⟨r, hr⟩ := (real_of_pre m hpre (⟨i.val / 256, by omega⟩ : Fin 8)).1 (ix3 b (⟨i.val % 256, by omega⟩ : Fin 256) l)
      rw [A.hx, row] at hr
      exact ⟨r, hr⟩)
    (fun i l => by
      obtain ⟨r, hr⟩ := (real_of_pre m hpre 0).2.1 (ix2 i l)
      rw [A.hwq] at hr
      exact ⟨r, hr⟩)
    (fun b i h d => by
      obtain ⟨r, hr⟩ := (real_of_pre m hpre (⟨i.val / 256, by omega⟩ : Fin 8)).2.2 (ix4 b (⟨i.val % 256, by omega⟩ : Fin 256) h d)
      rw [A.hk, row] at hr
      exact ⟨r, hr⟩) c (j 0 : Fin 2) (j 1 : Fin 256) (j 2 : Fin 512)
  refine Eq.trans ?_ (v.trans ?_)
  · exact congrArg (outF m c) (idx3 j)
  · refine congrArg (Cert.ReferenceIdeal.Value.res_out0 m' 0) (funext fun a => ?_)
    fin_cases a <;> rfl

end Cert.Proof

end
-- ==== Proof.lean ====
/- The certificate's theorem. The runs are proved in `Proof/Run.lean` (and its twin `Proof/KernelRun.lean` for the kernel on
   machine floats); the frames read off them in `Proof/Frames.lean`; the value equation in the `Proof/Value*.lean` modules, assembled in
   `Proof/Algebraic.lean`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, pre_facts_kernel, pre_facts_reference,
    frame_p, frame_pi, fun m ρ _ => frame_pi m ρ trivial, frame_ri, fun m ρ _ => frame_ri m ρ trivial, trivial,
    @algebraic pre_facts_kernel⟩

end Cert.Proof

end
